-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 4096, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 4096, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x8192 : Shape := ⟨2, ![1024, 8192]⟩
abbrev S1x4096x8x128 : Shape := ⟨4, ![1, 4096, 8, 128]⟩
abbrev S8192x1024 : Shape := ⟨2, ![8192, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x8192 .f32) (main_arg2 : FVec F S1x4096x8x128 .f32) (main_arg3 : FVec F S1x4096x8x128 .f32) (main_arg4 : FVec F S8192x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_scores_finite_ReferenceIdeal.lean ====
abbrev S1x256x1024 : Shape := ⟨3, ![1, 256, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x256x1024 .f32) (main_arg1 : FVec F S1024x8192 .f32) (main_arg2 : FVec F S1x4096x64x128 .f32) (main_arg3 : FVec F S1x4096x64x128 .f32) (main_arg4 : FVec F S8192x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x4096x64x128 .f32 := Host.absf main_arg2
  let main_cst_2 : FVec F S_ .f32 := constant S_ .f32 0x7F800000#32
  let main_v10 : FVec F S1x4096x64x128 .f32 := broadcastInDim S1x4096x64x128 ![] bcast_S_S1x4096x64x128 main_cst_2
  let main_v11 : IVec S1x4096x64x128 1 := cmpf .olt main_v9 main_v10
  let main_c_3 : IVec S_ 1 := constantI S_ 1 1#1
  let main_v12 : IVec S_ 1 := (fun x v => Host.reduce IntOp.andi x v reducesTo_S1x4096x64x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x8192 : Shape := ⟨2, ![1024, 8192]⟩
abbrev S1x4096x8x128 : Shape := ⟨4, ![1, 4096, 8, 128]⟩
abbrev S8192x1024 : Shape := ⟨2, ![8192, 1024]⟩
abbrev S1024x1024 : Shape := ⟨2, ![1024, 1024]⟩
abbrev S256x1024 : Shape := ⟨2, ![256, 1024]⟩
abbrev S4096x128 : Shape := ⟨2, ![4096, 128]⟩
abbrev S3x256x1024 : Shape := ⟨3, ![3, 256, 1024]⟩
abbrev S2 : Shape := ⟨1, ![2]⟩
abbrev S3 : Shape := ⟨1, ![3]⟩
abbrev S1 : Shape := ⟨1, ![1]⟩
abbrev S_ : Shape := ⟨0, ![]⟩
abbrev S256x4096 : Shape := ⟨2, ![256, 4096]⟩
abbrev S256x128 : Shape := ⟨2, ![256, 128]⟩
abbrev S1x4096x1x128 : Shape := ⟨4, ![1, 4096, 1, 128]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S1x4096x8x128, .f32⟩
  | .hbm, ⟨3, _⟩ => ⟨S1x4096x8x128, .f32⟩
  | .hbm, ⟨4, _⟩ => ⟨S8192x1024, .f32⟩
  | .hbm, ⟨5, _⟩ => ⟨S1x256x1024, .f32⟩
  | .local _ .vmem, ⟨0, _⟩ => ⟨S1x256x1024, .f32⟩
  | .local _ .vmem, ⟨1, _⟩ => ⟨S1x4096x8x128, .f32⟩
  | .local _ .vmem, ⟨2, _⟩ => ⟨S1x4096x8x128, .f32⟩
  | .local _ .vmem, ⟨3, _⟩ => ⟨S1x256x1024, .f32⟩
  | .local _ .vmem, ⟨4, _⟩ => ⟨S1024x1024, .f32⟩
  | .local _ .vmem, ⟨5, _⟩ => ⟨S1024x1024, .f32⟩
  | .local _ .vmem, ⟨6, _⟩ => ⟨S256x1024, .bf16⟩
  | .local _ .vmem, ⟨7, _⟩ => ⟨S256x1024, .bf16⟩
  | .local _ .vmem, ⟨8, _⟩ => ⟨S4096x128, .bf16⟩
  | .local _ .vmem, ⟨9, _⟩ => ⟨S256x1024, .bf16⟩
  | .local _ .vmem, ⟨10, _⟩ => ⟨S3x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v3 : BitVec 32 := Scalar.muli v2 c1024_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_0 : BitVec 32 := 1024#32
  let v4 : BitVec 32 := Scalar.muli v2 c1024_i32_0
  let c0_i32_3 : BitVec 32 := 0#32
  ![v4.toNat, 0]
def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v12 : BitVec 32 := Scalar.xori v2 c1_i32_4
  let c1_i32_6 : BitVec 32 := 1#32
  let v13 : BitVec 32 := Scalar.muli v12 c1_i32_6
  let v14 : BitVec 32 := Scalar.addi c0_i32_7 v13
  v14.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.xori v2 c3_i32
  let c1_i32_9 : BitVec 32 := 1#32
  let v16 : BitVec 32 := Scalar.muli v15 c1_i32_9
  let v17 : BitVec 32 := Scalar.addi c0_i32_10 v16
  v17.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v18 : BitVec 32 := Scalar.xori v2 c4_i32
  let c1_i32_12 : BitVec 32 := 1#32
  let v19 : BitVec 32 := Scalar.muli v18 c1_i32_12
  let v20 : BitVec 32 := Scalar.addi c0_i32_13 v19
  v20.toNat
def k0_dev4 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_179 : BitVec 32 := 1#32
  let v292 : BitVec 32 := Scalar.xori v2 c1_i32_179
  let c1_i32_185 : BitVec 32 := 1#32
  let v297 : BitVec 32 := Scalar.muli v292 c1_i32_185
  let v298 : BitVec 32 := Scalar.addi c0_i32_186 v297
  v298.toNat
def k0_dev5 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_205 : BitVec 32 := 3#32
  let v319 : BitVec 32 := Scalar.xori v2 c3_i32_205
  let c1_i32_211 : BitVec 32 := 1#32
  let v324 : BitVec 32 := Scalar.muli v319 c1_i32_211
  let v325 : BitVec 32 := Scalar.addi c0_i32_212 v324
  v325.toNat
def k0_dev6 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_231 : BitVec 32 := 4#32
  let v346 : BitVec 32 := Scalar.xori v2 c4_i32_231
  let c1_i32_236 : BitVec 32 := 1#32
  let v351 : BitVec 32 := Scalar.muli v346 c1_i32_236
  let v352 : BitVec 32 := Scalar.addi c0_i32_237 v351
  v352.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x256x1024 : Shape := ⟨3, ![1, 256, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x256x8192 : Shape := ⟨3, ![1, 256, 8192]⟩
abbrev S1x256x64x128 : Shape := ⟨4, ![1, 256, 64, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x64x256x4096 : Shape := ⟨4, ![1, 64, 256, 4096]⟩
abbrev S1x1x256x4096 : Shape := ⟨4, ![1, 1, 256, 4096]⟩
abbrev S1x64x256 : Shape := ⟨3, ![1, 64, 256]⟩
abbrev S1x64x256x1 : Shape := ⟨4, ![1, 64, 256, 1]⟩
abbrev S1x1x256x1 : Shape := ⟨4, ![1, 1, 256, 1]⟩
abbrev S1x64x128x256 : Shape := ⟨4, ![1, 64, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S1x4096x64x128, .f32⟩
  | .hbm, ⟨3, _⟩ => ⟨S1x4096x64x128, .f32⟩
  | .hbm, ⟨4, _⟩ => ⟨S8192x1024, .f32⟩
  | .hbm, ⟨5, _⟩ => ⟨S1x256x8192, .f32⟩
  | .hbm, ⟨6, _⟩ => ⟨S1x256x64x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S256x4096, .i32⟩
  | .hbm, ⟨48, _⟩ => ⟨S256x4096, .i32⟩
  | .hbm, ⟨49, _⟩ => ⟨S256x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S256x4096, .i1⟩
  | .hbm, ⟨54, _⟩ => ⟨S256x4096, .i1⟩
  | .hbm, ⟨55, _⟩ => ⟨S256x4096, .i32⟩
  | .hbm, ⟨56, _⟩ => ⟨S256x4096, .i32⟩
  | .hbm, ⟨57, _⟩ => ⟨S256x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S_, .i32⟩
  | .hbm, ⟨70, _⟩ => ⟨S256x4096, .i32⟩
  | .hbm, ⟨71, _⟩ => ⟨S256x4096, .i1⟩
  | .hbm, ⟨72, _⟩ => ⟨S_, .i32⟩
  | .hbm, ⟨73, _⟩ => ⟨S_, .i1⟩
  | .hbm, ⟨74, _⟩ => ⟨S256x4096, .i1⟩
  | .hbm, ⟨75, _⟩ => ⟨S256x4096, .i1⟩
  | .hbm, ⟨76, _⟩ => ⟨S256x4096, .i1⟩
  | .hbm, ⟨77, _⟩ => ⟨S256x4096, .i32⟩
  | .hbm, ⟨78, _⟩ => ⟨S256x4096, .i32⟩
  | .hbm, ⟨79, _⟩ => ⟨S256x4096, .i32⟩
  | .hbm, ⟨80, _⟩ => ⟨S_, .i32⟩
  | .hbm, ⟨81, _⟩ => ⟨S256x4096, .i32⟩
  | .hbm, ⟨82, _⟩ => ⟨S256x4096, .i1⟩
  | .hbm, ⟨83, _⟩ => ⟨S256x4096, .i1⟩
  | .hbm, ⟨84, _⟩ => ⟨S1x64x256x4096, .f32⟩
  | .hbm, ⟨85, _⟩ => ⟨S_, .f32⟩
  | .hbm, ⟨86, _⟩ => ⟨S1x64x256x4096, .f32⟩
  | .hbm, ⟨87, _⟩ => ⟨S1x64x256x4096, .f32⟩
  | .hbm, ⟨88, _⟩ => ⟨S1x1x256x4096, .i1⟩
  | .hbm, ⟨89, _⟩ => ⟨S_, .f32⟩
  | .hbm, ⟨90, _⟩ => ⟨S_, .f32⟩
  | .hbm, ⟨91, _⟩ => ⟨S1x64x256x4096, .i1⟩
  | .hbm, ⟨92, _⟩ => ⟨S1x64x256x4096, .f32⟩
  | .hbm, ⟨93, _⟩ => ⟨S1x64x256x4096, .f32⟩
  | .hbm, ⟨94, _⟩ => ⟨S_, .f32⟩
  | .hbm, ⟨95, _⟩ => ⟨S1x64x256, .f32⟩
  | .hbm, ⟨96, _⟩ => ⟨S1x64x256x1, .f32⟩
  | .hbm, ⟨97, _⟩ => ⟨S1x64x256x4096, .f32⟩
  | .hbm, ⟨98, _⟩ => ⟨S1x64x256x4096, .f32⟩
  | .hbm, ⟨99, _⟩ => ⟨S1x64x256x4096, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x64x256, .f32⟩
  | .hbm, ⟨105, _⟩ => ⟨S1x64x256x1, .f32⟩
  | .hbm, ⟨106, _⟩ => ⟨S_, .f32⟩
  | .hbm, ⟨107, _⟩ => ⟨S_, .f32⟩
  | .hbm, ⟨108, _⟩ => ⟨S1x64x256x1, .i1⟩
  | .hbm, ⟨109, _⟩ => ⟨S1x64x256x1, .f32⟩
  | .hbm, ⟨110, _⟩ => ⟨S1x64x256x1, .f32⟩
  | .hbm, ⟨111, _⟩ => ⟨S1x64x256x4096, .f32⟩
  | .hbm, ⟨112, _⟩ => ⟨S1x64x256x4096, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x64x256x4096, .i1⟩
  | .hbm, ⟨117, _⟩ => ⟨S1x64x256x4096, .f32⟩
  | .hbm, ⟨118, _⟩ => ⟨S1x64x256x4096, .f32⟩
  | .hbm, ⟨119, _⟩ => ⟨S1x64x128x256, .f32⟩
  | .hbm, ⟨120, _⟩ => ⟨S1x256x64x128, .f32⟩
  | .hbm, ⟨121, _⟩ => ⟨S1x256x8192, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Proto.lean ====
/-
# The protocol of the all-reduce between the eight devices

Every device `c` has three partners, `peer 0 c`, `peer 1 c` and `peer 2 c`: the devices whose numbers are the exclusive or of `c`'s with
1, 3 and 4. Being a partner is symmetric. A device signals the barrier semaphore of its three partners and waits for
three signals on its own; then, step by step (`k = 0, 1, 2`), it sends its send buffer to slot `k` of the landing buffer of
`peer k c`, waits until that transfer has left and until its own slot `k` has been filled.

Per device seven semaphores are shared: the barrier, and a send and a receive semaphore for each of the three steps. Each is
used for one round:
* the barrier gets one unit from each partner; partner `k`'s unit brings slot `k` of that partner's landing buffer, so
  that this device may write there;
* the send semaphore of step `k` gets the transfer's amount when the transfer has left, which gives the send buffer back;
* the receive semaphore of step `k` gets the amount when the partner's transfer has landed, which gives slot `k` back,
  now holding what the partner sent.

The contents that travel are a parameter `Z` here: `Z k c` is what device `c` sends at step `k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

/-- The ghost state of the shared semaphores; a duty of a round is named by the step it belongs to. -/
abbrev UB : Type := URounds (GSem nD τ sig) (Fin 3)
/-- With the pipeline's own ghost state and the counters of the local transfers. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the shared semaphores' ghost state sits. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] [Named F] in
instance ER_landsIn : (ER : Emb UB 𝕄).LandsIn (upEmb : UEmb _ 𝕄) := by unfold ER; infer_instance

/-! ## The partners -/

/-- The number whose bits step `k` flips. -/
def mask : Fin 3 → ℕ := ![1, 3, 4]

/-- Device `c`'s partner at step `k`. -/
def peer (k : Fin 3) (c : Dev nD) : Dev nD := ⟨(c.val ^^^ mask k) % 8, Nat.mod_lt _ (by decide)⟩

theorem peer_peer (k : Fin 3) (c : Dev nD) : peer k (peer k c) = c := by revert k c; decide

/-- Partnership at step `k` as a permutation of the devices. -/
def swap (k : Fin 3) : Dev nD ≃ Dev nD := ⟨peer k, peer k, peer_peer k, peer_peer k⟩

/-- The devices the kernel computes are the partners: those it signals, -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
/-- and those it sends to. -/
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-! ## Buffers and semaphores -/

/-- The send buffer, and the landing buffer with its three slots. -/
abbrev sM : Memref sig .tc .vmem S256x1024 .bf16 := Memref.whole cc0_scratch5
abbrev rM : Memref sig .tc .vmem S3x256x1024 .bf16 := Memref.whole cc0_scratch6

theorem slot_inb (k : Fin 3) : ∀ a, (![k.val, 0, 0] : Fin 3 → ℕ) a + S1x256x1024.size a ≤ S3x256x1024.size a := by revert k; decide
/-- The rectangle of slot `k`, -/
abbrev slotR (k : Fin 3) : Rect S3x256x1024 := Rect.unit (s := S3x256x1024) ![k.val, 0, 0] S1x256x1024.size (slot_inb k)
/-- and the slot. -/
abbrev slotM (k : Fin 3) : Memref sig .tc .vmem S256x1024 .bf16 :=
  (rM.slice (slotR k) (fun _ => rfl)).squeeze S256x1024 squeezes_S1x256x1024_S256x1024

theorem sem_inb (k : Fin 3) : ∀ a, (![k.val] : Fin 1 → ℕ) a + S1.size a ≤ S3.size a := by revert k; decide
theorem lsem_inb (k : Fin 2) : ∀ a, (![k.val] : Fin 1 → ℕ) a + S1.size a ≤ S2.size a := by revert k; decide

/-- The barrier semaphore, the send and receive semaphores of step `k`, and the two semaphores of the local transfers. -/
abbrev barS : Sem sig := (SemArray.scalar (sig.barrier 0 rfl) : Sems sig S_).sem
abbrev sendS (k : Fin 3) : DmaSem sig := ((cc0_scratch8.slice (Rect.unit (s := S3) ![k.val] S1.size (sem_inb k))).squeeze S_ squeezes_S1_S_).sem
abbrev recvS (k : Fin 3) : DmaSem sig := ((cc0_scratch9.slice (Rect.unit (s := S3) ![k.val] S1.size (sem_inb k))).squeeze S_ squeezes_S1_S_).sem
abbrev locS (k : Fin 2) : DmaSem sig := ((cc0_scratch7.slice (Rect.unit (s := S2) ![k.val] S1.size (lsem_inb k))).squeeze S_ squeezes_S1_S_).sem

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))
abbrev locCell (k : Fin 2) (c : Dev nD) : GSem nD τ sig := ((c : Thread nD τ), .dma (locS k))

theorem sendS_inj {j k : Fin 3} : (SemLoc.dma (sendS j) : SemLoc sig) = .dma (sendS k) → j = k := by revert j k; decide
theorem recvS_inj {j k : Fin 3} : (SemLoc.dma (recvS j) : SemLoc sig) = .dma (recvS k) → j = k := by revert j k; decide
theorem send_ne_recv (j k : Fin 3) : (SemLoc.dma (sendS j) : SemLoc sig) ≠ .dma (recvS k) := by revert j k; decide
theorem loc_ne_recv (j : Fin 2) (k : Fin 3) : (SemLoc.dma (locS j) : SemLoc sig) ≠ .dma (recvS k) := by revert j k; decide
theorem dma_ne_bar (q : DmaSem sig) : (SemLoc.dma q : SemLoc sig) ≠ .reg barS := fun h => by cases h

/-- What one of the transfers between devices credits. -/
def N : ℕ := (sM).view.dmaCredit
theorem N_pos : 0 < N := View.dmaCredit_pos _ (by decide)
theorem slot_credit (k : Fin 3) : (slotM k).view.dmaCredit = N := rfl

/-! ## What travels -/

variable (Z : Fin 3 → Dev nD → S256x1024.Idx → Elt F .bf16)

/-- Device `c`'s send buffer holding `x`, whole; -/
def sendPts (c : Dev nD) (x : S256x1024.Idx → Elt F .bf16) : sProp 𝕄 :=
  (sM).view.loc (c : Thread nD τ) ↦[(sM).view.set]{fullShare} (x : Buf (Elt F) ((sM).view.loc (c : Thread nD τ)))
/-- slot `k` of its landing buffer within the contents `f`; -/
def slotPts (k : Fin 3) (c : Dev nD) (f : Buf (Elt F) ((rM).view.loc (c : Thread nD τ))) : sProp 𝕄 :=
  (slotM k).view.loc (c : Thread nD τ) ↦[(slotM k).view.set]{fullShare} f
/-- and the slot holding `x`. -/
def slotHolds (k : Fin 3) (c : Dev nD) (x : S256x1024.Idx → Elt F .bf16) : sProp 𝕄 :=
  iprop(∃ f : Buf (Elt F) ((rM).view.loc (c : Thread nD τ)), ⌜(slotM k).view.read (Elt F) f = x⌝ ∗ slotPts k c f)

omit [FloatOps F] [Named F] in
instance sendPts_storable (c : Dev nD) (x) : BI.Storable (upEmb : UEmb _ 𝕄) (sendPts (F := F) c x) := by unfold sendPts; infer_instance
omit [FloatOps F] [Named F] in
instance slotPts_storable (k) (c : Dev nD) (f) : BI.Storable (upEmb : UEmb _ 𝕄) (slotPts (F := F) k c f) := by unfold slotPts; infer_instance
omit [FloatOps F] [Named F] in
instance slotHolds_storable (k) (c : Dev nD) (x) : BI.Storable (upEmb : UEmb _ 𝕄) (slotHolds (F := F) k c x) := by unfold slotHolds; infer_instance

/-! ## The rounds -/

/-- Partner `k`'s unit on `c`'s barrier: slot `k` of the partner's landing buffer, its receive semaphore not yet used. -/
def barPay (k : Fin 3) (c : Dev nD) : sProp 𝕄 := iprop((∃ f, slotPts k (peer k c) f) ∗ reached ER (recvCell k (peer k c)) 0)

abbrev IsBar (g : GSem nD τ sig) : Prop := g.1.2 = .tc ∧ g.2 = .reg barS
abbrev IsSend (k : Fin 3) (g : GSem nD τ sig) : Prop := g.1.2 = .tc ∧ g.2 = .dma (sendS k)
abbrev IsRecv (k : Fin 3) (g : GSem nD τ sig) : Prop := g.1.2 = .tc ∧ g.2 = .dma (recvS k)

/-- The schedule: in round 0 a barrier has the duties 0, 1, 2 of one unit each, a send or receive semaphore of step `k` the duty
    `k` of a transfer's amount; there is no later round. -/
def reduceRd : Rounds.Schedule (GSem nD τ sig) (Fin 3) 𝕄 where
  duties g r := if r = 0 then Finset.univ.filter fun k : Fin 3 => IsBar g ∨ IsSend k g ∨ IsRecv k g else ∅
  unitless _ := False
  amount g _ _ := if g.2 = .reg barS then 1 else N
  payload g _ k :=
    if g.2 = .reg barS then barPay k g.1.1
    else if g.2 = .dma (recvS k) then slotHolds k g.1.1 (Z k (peer k g.1.1))
    else if g.2 = .dma (sendS k) then sendPts g.1.1 (Z k g.1.1)
    else iprop(emp)
  amount_pos g _ _ _ := by
    by_cases h : g.2 = .reg barS
    · rw [if_pos h]; exact Nat.one_pos
    · rw [if_neg h]; exact N_pos

omit [FloatOps F] [Named F] in
instance reduceRd_payload_storable (g : GSem nD τ sig) (r : ℕ) (k : Fin 3) :
    BI.Storable (upEmb : UEmb _ 𝕄) ((reduceRd (F := F) Z).payload g r k) := by
  show BI.Storable upEmb (if g.2 = .reg barS then barPay k g.1.1
    else if g.2 = .dma (recvS k) then slotHolds k g.1.1 (Z k (peer k g.1.1))
    else if g.2 = .dma (sendS k) then sendPts g.1.1 (Z k g.1.1) else iprop(emp))
  unfold barPay
  (repeat' split) <;> infer_instance

section Tables
variable (c : Dev nD) (k : Fin 3)

omit [FloatOps F] [Named F]

theorem duties_bar : (reduceRd (F := F) Z).duties (barCell c) 0 = Finset.univ := by
  dsimp only [reduceRd]; rw [if_pos rfl]
  exact Finset.filter_true_of_mem fun _ _ => .inl ⟨rfl, rfl⟩
theorem duties_send : (reduceRd (F := F) Z).duties (sendCell k c) 0 = {k} := by
  dsimp only [reduceRd]; rw [if_pos rfl]
  ext j
  simp only [Finset.mem_filter, Finset.mem_univ, true_and, Finset.mem_singleton]
  constructor
  · rintro (h | h | h)
    · exact absurd h.2 (dma_ne_bar _)
    · exact (sendS_inj h.2).symm
    · exact absurd h.2 (send_ne_recv k j)
  · rintro rfl; exact .inr (.inl ⟨rfl, rfl⟩)
theorem duties_recv : (reduceRd (F := F) Z).duties (recvCell k c) 0 = {k} := by
  dsimp only [reduceRd]; rw [if_pos rfl]
  ext j
  simp only [Finset.mem_filter, Finset.mem_univ, true_and, Finset.mem_singleton]
  constructor
  · rintro (h | h | h)
    · exact absurd h.2 (dma_ne_bar _)
    · exact absurd h.2 (send_ne_recv j k).symm
    · exact (recvS_inj h.2).symm
  · rintro rfl; exact .inr (.inr ⟨rfl, rfl⟩)
theorem duties_later (g : GSem nD τ sig) : ∀ r, 1 ≤ r → (reduceRd (F := F) Z).duties g r = ∅ :=
  fun r hr => by dsimp only [reduceRd]; exact if_neg (by omega)

theorem amount_bar (j : Fin 3) : (reduceRd (F := F) Z).amount (barCell c) 0 j = 1 := by dsimp only [reduceRd]; exact if_pos rfl
theorem amount_send (j : Fin 3) : (reduceRd (F := F) Z).amount (sendCell k c) 0 j = N := by dsimp only [reduceRd]; exact if_neg (dma_ne_bar _)
theorem amount_recv (j : Fin 3) : (reduceRd (F := F) Z).amount (recvCell k c) 0 j = N := by dsimp only [reduceRd]; exact if_neg (dma_ne_bar _)

theorem expect_bar : (reduceRd (F := F) Z).expect (barCell c) 0 = 3 := by
  unfold Schedule.expect Schedule.amountOf
  rw [duties_bar, Finset.sum_congr rfl fun j _ => amount_bar Z c j, Finset.sum_const, Finset.card_univ, Fintype.card_fin, smul_eq_mul]
theorem expect_send : (reduceRd (F := F) Z).expect (sendCell k c) 0 = N := by
  unfold Schedule.expect Schedule.amountOf; rw [duties_send, Finset.sum_singleton, amount_send]
theorem expect_recv : (reduceRd (F := F) Z).expect (recvCell k c) 0 = N := by
  unfold Schedule.expect Schedule.amountOf; rw [duties_recv, Finset.sum_singleton, amount_recv]

theorem payload_bar : (reduceRd (F := F) Z).payload (barCell c) 0 k = barPay k c := by dsimp only [reduceRd]; exact if_pos rfl
theorem payload_send : (reduceRd (F := F) Z).payload (sendCell k c) 0 k = sendPts c (Z k c) := by
  dsimp only [reduceRd]; rw [if_neg (dma_ne_bar _), if_neg (send_ne_recv k k), if_pos rfl]
theorem payload_recv : (reduceRd (F := F) Z).payload (recvCell k c) 0 k = slotHolds k c (Z k (peer k c)) := by
  dsimp only [reduceRd]; rw [if_neg (dma_ne_bar _), if_pos rfl]

/-- What a wait for a whole round brings: at the barrier the three partners' slots, -/
theorem rest_bar : bigSep ((reduceRd (F := F) Z).duties (barCell c) 0 \ ∅) (fun j => (reduceRd (F := F) Z).payload (barCell c) 0 j)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
/-- at a send semaphore the send buffer, -/
theorem rest_send : bigSep ((reduceRd (F := F) Z).duties (sendCell k c) 0 \ ∅) (fun j => (reduceRd (F := F) Z).payload (sendCell k c) 0 j)
    = sendPts c (Z k c) := by
  rw [Finset.sdiff_empty, duties_send, bigSep_singleton, payload_send]
/-- at a receive semaphore the slot, filled. -/
theorem rest_recv : bigSep ((reduceRd (F := F) Z).duties (recvCell k c) 0 \ ∅) (fun j => (reduceRd (F := F) Z).payload (recvCell k c) 0 j)
    = slotHolds k c (Z k (peer k c)) := by
  rw [Finset.sdiff_empty, duties_recv, bigSep_singleton, payload_recv]

end Tables

/-! ## What a device owes, and the levels -/

/-- The amounts device `c` still owes its partners' receive semaphores: at all three steps, from step 1 on, at step 2. -/
def oweR (k : Fin 3) (c : Dev nD) : CellTallies nD τ sig Unit := tallyAt (recvCell k (peer k c)) () N
def oweU (k : Fin 3) (c : Dev nD) : CellTallies nD τ sig Unit := tallyAt (barCell (peer k c)) () 1
/-- What device `c` owes at the start: the last summand is paid first. -/
def O₀ (c : Dev nD) : CellTallies nD τ sig Unit := 0 + oweR 2 c + oweR 1 c + oweR 0 c + oweU 2 c + oweU 1 c + oweU 0 c

/-- The level of a semaphore: its step's number plus 2 for a receive semaphore, 1 for a barrier, 0 for every other one. -/
def lv (g : GSem nD τ sig) (_ : Unit) : ℕ :=
  if g.2 = .reg barS then 1 else if g.2 = .dma (recvS 0) then 2 else if g.2 = .dma (recvS 1) then 3 else if g.2 = .dma (recvS 2) then 4 else 0
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (k : Fin 3) (c : Dev nD) : lv (recvCell k c) () = k.val + 2 := by
  unfold lv; rw [if_neg (dma_ne_bar _)]
  fin_cases k
  · exact if_pos rfl
  · rw [if_neg (fun h => absurd (recvS_inj h) (by decide))]; exact if_pos rfl
  · rw [if_neg (fun h => absurd (recvS_inj h) (by decide)), if_neg (fun h => absurd (recvS_inj h) (by decide))]; exact if_pos rfl
theorem lv_other (c : Dev nD) (q : DmaSem sig) (h : ∀ k, SemLoc.dma q ≠ .dma (recvS k)) : lv ((c : Thread nD τ), .dma q) () = 0 := by
  unfold lv; rw [if_neg (dma_ne_bar _), if_neg (h 0), if_neg (h 1), if_neg (h 2)]

/-- Everything owed in `O` is owed to semaphores of a level above `n`. -/
def Above (n : ℕ) (O : CellTallies nD τ sig Unit) : Prop := ∀ g u, 0 < O g u → g.1.2 = .tc ∧ n < lv g ()

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem above_tally {n k : ℕ} {g₀ : GSem nD τ sig} (htc : g₀.1.2 = .tc) (h : n < lv g₀ ()) : Above n (tallyAt g₀ () k) := fun g u hg => by
  rw [tallyAt_apply] at hg
  by_cases e : g = g₀ ∧ u = ()
  · rw [e.1]; exact ⟨htc, h⟩
  · rw [if_neg e] at hg; exact absurd hg (Nat.lt_irrefl 0)
theorem above_oweR {n : ℕ} (k : Fin 3) (c : Dev nD) (h : n < k.val + 2) : Above n (oweR k c) := above_tally rfl (by rw [lv_recv]; exact h)
theorem above_oweU (k : Fin 3) (c : Dev nD) : Above 0 (oweU k c) := above_tally rfl (by rw [lv_bar]; decide)
theorem above_O₀ (c : Dev nD) : Above 0 (O₀ c) := by
  unfold O₀
  exact above_add (above_add (above_add (above_add (above_add (above_add (above_zero _) (above_oweR 2 c (by decide))) (above_oweR 1 c (by decide)))
    (above_oweR 0 c (by decide))) (above_oweU 2 c)) (above_oweU 1 c)) (above_oweU 0 c)

omit [FloatOps F] [Named F] in
/-- A device may wait at a semaphore of a level no higher than all it owes is above. -/
theorem mayWait_above {n : ℕ} {O : CellTallies nD τ sig Unit} (hO : Above n O) (c : Dev nD) (sm : SemLoc sig)
    (h : lv ((c : Thread nD τ), sm) () ≤ n) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

end Cert.KernelIdeal.Reduce

end
-- ==== Proof.Steps.lean ====
/-
# One step of the protocol at a time

The rules by which a device signals a partner, waits on its barrier, sends its send buffer to a partner's slot, and waits
for a transfer to have left or to have landed, each stated at the semaphores of Proto.lean and for any step `k`.
-/
module

public import proofs.«01_k».proof.Proof.Proto

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The shared semaphores of a device: `none` its barrier, `some (false, k)` and `some (true, k)` the send and the receive
    semaphore of step `k`. -/
abbrev Ix : Type := Option (Bool × Fin 3)

/-- Shared semaphore `i` of a device, -/
def ksem : Ix → SemLoc sig
  | none => .reg barS
  | some (false, k) => .dma (sendS k)
  | some (true, k) => .dma (recvS k)
/-- as a semaphore of the launch. -/
abbrev kcell (ci : Dev nD × Ix) : GSem nD τ sig := ((ci.1 : Thread nD τ), ksem ci.2)

variable (Z : Fin 3 → Dev nD → S256x1024.Idx → Elt F .bf16) (K : Dev nD × Ix → ℕ)

/-- Every shared semaphore's invariant stands, and each has reached round 0. -/
def records : sProp 𝕄 :=
  bigSep (Finset.univ : Finset (Dev nD × Ix)) fun ci => iprop(cellInv ER (reduceRd Z) (K ci) (kcell ci) ∗ reached ER (kcell ci) 0)

omit [FloatOps F] [Named F] in
instance records_persistent : BI.Persistent (records (F := F) Z K) := by unfold records; infer_instance

omit [FloatOps F] [Named F] in
theorem record_at (ci : Dev nD × Ix) : (records (F := F) Z K) ⊢ iprop(cellInv ER (reduceRd Z) (K ci) (kcell ci) ∗ reached ER (kcell ci) 0) :=
  bigSep_elim (Finset.mem_univ ci)

/-- A signal to partner `k`'s barrier hands it slot `k` of the landing buffer. -/
theorem wp_signal_partner (k : Fin 3) (c n : Dev nD) (hn : n = peer k c) {α : Type} {Q : α → sProp 𝕄}
    {cont : PUnit → Prog (TpuEff nD τ sig (Elt F) Λ₀ .tc) α} {O : CellTallies nD τ sig Unit} {W : Waits sig Unit} :
    iprop(records Z K ∗ owes (c : Thread nD τ) (O + oweU k c) W ∗ dutyTok ER (barCell (peer k c)) 0 k ∗ (∃ f, slotPts k c f))
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal (Dev.tc n : Thread nD τ) barS (1#32 : BitVec 32).toInt) cont) Q) := by
  subst hn
  iintro ⟨#HR, HO, Ht, Hs⟩
  ihave #Hb := (record_at Z K (peer k c, none)) $$ HR
  ihave #Hr := (record_at Z K (c, some (true, k))) $$ HR
  icases Hb with ⟨#Hbi, #Hbr⟩
  icases Hr with ⟨-, #Hrr⟩
  iapply (Rounds.wp_signal 𝒱₀ ER (reduceRd Z) (c : Thread nD τ) none (dst := (peer k c : Thread nD τ)) (κ := K (peer k c, none))
      (d := k) (by rw [duties_bar]; exact Finset.mem_univ _) ((amount_bar Z (peer k c) k).trans (by decide)) () O rfl) $$ [HO Ht Hs]
  isplitr; · iexact Hbi
  isplitl [HO]; · iexact HO
  isplitl [Ht]; · iexact Ht
  isplitl [Hs]
  · rw [payload_bar]; unfold barPay; rw [peer_peer]
    isplitl [Hs]; · iexact Hs
    iexact Hrr
  · iexact Hbr

/-- The wait for three signals on the barrier brings the partners' slots. -/
theorem wp_wait_partners (c : Dev nD) {α : Type} {Q : α → sProp 𝕄}
    {cont : PUnit → Prog (TpuEff nD τ sig (Elt F) Λ₀ .tc) α} {O : CellTallies nD τ sig Unit} (hO : Above 1 O) {W : Waits sig Unit} :
    iprop(records Z K ∗ levAts L lv ∗ owes (c : Thread nD τ) O W ∗ cred (tallyAt (barCell c) () 3) ∗ atPos ER (barCell c) 0 ∅ 0)
      ⊢ iprop((owes (c : Thread nD τ) O (insert (.reg barS, ()) W) ∗ atPos ER (barCell c) 1 ∅ 0 ∗ barPay 0 c ∗ barPay 1 c ∗ barPay 2 c
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.semWait barS (3#32 : BitVec 32).toInt) cont) Q) := by
  iintro ⟨#HR, #Hlev, HO, Hc, Hat⟩ Hk
  ihave #Hb := (record_at Z K (c, none)) $$ HR
  icases Hb with ⟨#Hbi, -⟩
  iapply (Rounds.wp_wait_rest_token 𝒱₀ ER (reduceRd Z) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iexact Hbi
    isplitl [Hc]; · iexact Hc
    isplitl [HO]; · iexact HO
    isplitr; · iapply (mayWait_above hO c (.reg barS) (by rw [lv_bar])); iexact Hlev
    iexact Hat
  iintro ⟨HO, Hat, -, Hp⟩
  ihave Hp' := (Entails.of_eq (rest_bar Z c)) $$ Hp
  iapply Hk
  isplitl [HO]; · iexact HO
  isplitl [Hat]; · iexact Hat
  iexact Hp'

/-- What the transfer of step `k` leaves in the partner's slot is what the partner's receive semaphore promises. -/
theorem landed_holds (k : Fin 3) (c : Dev nD) (fd : Buf (Elt F) ((rM).view.loc (peer k c : Thread nD τ))) :
    (((slotM k).view.loc (peer k c : Thread nD τ) ↦[(slotM k).view.set]{fullShare}
        (slotM k).view.write (Elt F) fd ((sM).view.read (Elt F) (Z k c)) Finset.univ : sProp 𝕄))
      ⊢ (reduceRd Z).payload (recvCell k (peer k c)) 0 k := by
  rw [payload_recv]; unfold slotHolds slotPts; rw [peer_peer]
  iintro H
  iexists _
  isplitr
  · ipureintro
    exact (View.read_write_univ fd _).trans (View.read_whole (Val := Elt F) cc0_scratch5 (Z k c))
  · iexact H

/-- Step `k`'s transfer: the send buffer's contents `Z k c` go to slot `k` of the partner. -/
theorem wp_send_partner (k : Fin 3) (c n : Dev nD) (hn : n = peer k c)
    {hsc : (slotM k : Memref sig (Dev.tc n : Thread nD τ).2.kind .vmem S256x1024 .bf16).view.ref.isScScratch = false}
    {hsrc : (sM).view.WordExact} {hdst : (slotM k : Memref sig (Dev.tc n : Thread nD τ).2.kind .vmem S256x1024 .bf16).view.WordExact}
    {hsem : DmaTarget.Typed .vmem (.dma (recvS k)) (.remote (Dev.tc n : Thread nD τ) (slotM k) (.dma (sendS k)) hsc)}
    {α : Type} {Q : α → sProp 𝕄} {cont : PUnit → Prog (TpuEff nD τ sig (Elt F) Λ₀ .tc) α}
    {O : CellTallies nD τ sig Unit} {W : Waits sig Unit} :
    iprop(records Z K ∗ owes (c : Thread nD τ) (O + oweR k c) W ∗ sendPts c (Z k c) ∗ (∃ f, slotPts k (peer k c) f)
        ∗ dutyTok ER (sendCell k c) 0 k ∗ dutyTok ER (recvCell k (peer k c)) 0 k)
      ⊢ iprop(((cred (tallyAt (sendCell k c) () N) ∗ owes (c : Thread nD τ) O W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (sM) (.remote (Dev.tc n : Thread nD τ) (slotM k) (.dma (sendS k)) hsc) (.dma (recvS k)) hsrc hdst hsem) cont) Q) := by
  subst hn
  iintro ⟨#HR, HO, Hs, ⟨%fd, Hd⟩, Ht, Ht'⟩
  ihave #H1 := (record_at Z K (c, some (false, k))) $$ HR
  ihave #H2 := (record_at Z K (peer k c, some (true, k))) $$ HR
  icases H1 with ⟨#H1i, #H1r⟩
  icases H2 with ⟨#H2i, #H2r⟩
  unfold sendPts slotPts
  iapply (Rounds.wp_send_pointsTo 𝒱₀ ER (reduceRd Z) (c : Thread nD τ) none (c' := (peer k c : Thread nD τ)) (src := sM) (dst := slotM k) (hsc := hsc) (fs := Z k c) (κ₁ := K (c, some (false, k))) (κ₂ := K (peer k c, some (true, k)))
    (r₁ := 0) (r₂ := 0) (d₁ := k) (d₂ := k) (fd := fd)
    (by rw [duties_send]; exact Finset.mem_singleton_self _) (by rw [duties_recv]; exact Finset.mem_singleton_self _)
    () () N rfl (amount_send Z c k k) (amount_recv Z (peer k c) k k) O rfl (W := W)
    (by rw [payload_send]; exact BI.Entails.refl _)
    (landed_holds Z k c fd)) $$ [HO Hs Hd Ht Ht']
  isplitr; · iexact H1i
  isplitr; · iexact H2i
  isplitl [Hs]; · iexact Hs
  isplitl [Hd]; · iexact Hd
  isplitl [HO]; · iexact HO
  isplitl [Ht]; · iexact Ht
  isplitr; · iexact H1r
  isplitl [Ht']; · iexact Ht'
  iexact H2r

/-- The wait for step `k`'s transfer to have left brings the send buffer back. -/
theorem wp_wait_sent (k : Fin 3) (c : Dev nD) {hsrc : (slotM k).view.WordExact} {hdst : (sM).view.WordExact}
    {α : Type} {Q : α → sProp 𝕄} {cont : PUnit → Prog (TpuEff nD τ sig (Elt F) Λ₀ .tc) α}
    {O : CellTallies nD τ sig Unit} (hO : Above 0 O) {W : Waits sig Unit} :
    iprop(records Z K ∗ levAts L lv ∗ owes (c : Thread nD τ) O W ∗ cred (tallyAt (sendCell k c) () N) ∗ atPos ER (sendCell k c) 0 ∅ 0)
      ⊢ iprop((owes (c : Thread nD τ) O (insert (.dma (sendS k), ()) W) ∗ atPos ER (sendCell k c) 1 ∅ 0 ∗ sendPts c (Z k c)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.waitDma2 (sendS k) (slotM k) (sM) hsrc hdst) cont) Q) := by
  iintro ⟨#HR, #Hlev, HO, Hc, Hat⟩ Hk
  ihave #Hb := (record_at Z K (c, some (false, k))) $$ HR
  icases Hb with ⟨#Hbi, -⟩
  iapply (Rounds.wp_wait_rest_token 𝒱₀ ER (reduceRd Z) (c : Thread nD τ) none (κ := K (c, some (false, k)))
      (wpE_waitDma2_eq 𝒱₀ (c : Thread nD τ) none Set.univ) (Set.mem_univ _) () (O := O) (W := W) (R := 0) (m := 0) (T := ∅)
      (by rw [Nat.zero_add]; exact (expect_send Z c k).symm)) $$ [Hc HO Hat]
  · isplitr; · iexact Hbi
    isplitl [Hc]; · iexact Hc
    isplitl [HO]; · iexact HO
    isplitr; · iapply (mayWait_above hO c (.dma (sendS k)) (by rw [lv_other c _ (send_ne_recv k)])); iexact Hlev
    iexact Hat
  iintro ⟨HO, Hat, -, Hp⟩
  ihave Hp' := (Entails.of_eq (rest_send Z c k)) $$ Hp
  iapply Hk
  isplitl [HO]; · iexact HO
  isplitl [Hat]; · iexact Hat
  iexact Hp'

/-- The wait for the partner's transfer of step `k` brings slot `k` holding what the partner sent. -/
theorem wp_wait_landed (k : Fin 3) (c : Dev nD) {hsrc : (sM).view.WordExact} {hdst : (slotM k).view.WordExact}
    {α : Type} {Q : α → sProp 𝕄} {cont : PUnit → Prog (TpuEff nD τ sig (Elt F) Λ₀ .tc) α}
    {O : CellTallies nD τ sig Unit} (hO : Above (k.val + 2) O) {W : Waits sig Unit} :
    iprop(records Z K ∗ levAts L lv ∗ owes (c : Thread nD τ) O W ∗ cred (tallyAt (recvCell k c) () N) ∗ atPos ER (recvCell k c) 0 ∅ 0)
      ⊢ iprop((owes (c : Thread nD τ) O (insert (.dma (recvS k), ()) W) ∗ atPos ER (recvCell k c) 1 ∅ 0 ∗ slotHolds k c (Z k (peer k c))
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.waitDma2 (recvS k) (sM) (slotM k) hsrc hdst) cont) Q) := by
  iintro ⟨#HR, #Hlev, HO, Hc, Hat⟩ Hk
  ihave #Hb := (record_at Z K (c, some (true, k))) $$ HR
  icases Hb with ⟨#Hbi, -⟩
  iapply (Rounds.wp_wait_rest_token 𝒱₀ ER (reduceRd Z) (c : Thread nD τ) none (κ := K (c, some (true, k)))
      (wpE_waitDma2_eq 𝒱₀ (c : Thread nD τ) none Set.univ) (Set.mem_univ _) () (O := O) (W := W) (R := 0) (m := 0) (T := ∅)
      (by rw [Nat.zero_add]; exact (expect_recv Z c k).symm)) $$ [Hc HO Hat]
  · isplitr; · iexact Hbi
    isplitl [Hc]; · iexact Hc
    isplitl [HO]; · iexact HO
    isplitr; · iapply (mayWait_above hO c (.dma (recvS k)) (by rw [lv_recv])); iexact Hlev
    iexact Hat
  iintro ⟨HO, Hat, -, Hp⟩
  ihave Hp' := (Entails.of_eq (rest_recv Z c k)) $$ Hp
  iapply Hk
  isplitl [HO]; · iexact HO
  isplitl [Hat]; · iexact Hat
  iexact Hp'

/-- After its one round a shared semaphore is at zero again, and the device's own. -/
theorem close_cell (ci : Dev nD × Ix) :
    iprop(records Z K ∗ atPos ER (kcell ci) 1 ∅ 0) ⊢ iprop(|={Set.univ}=> semVal (kcell ci) 0) := by
  iintro ⟨#HR, Hat⟩
  ihave #Hb := (record_at Z K ci) $$ HR
  icases Hb with ⟨#Hbi, -⟩
  iapply (Rounds.cell_close ER (reduceRd Z) (Set.mem_univ (K ci)) (fun h => h) (R := 1) (duties_later Z (kcell ci)))
  isplitr; · iexact Hbi
  iexact Hat

end Cert.KernelIdeal.Reduce

end
-- ==== Proof.Values.lean ====
/-
# What the kernel computes

The values a device's buffers hold, as functions of its blocks: the scaled projection, each head's context, the context buffer,
and the all-reduce's sums and what is sent at its steps, in terms of the arithmetic the printed program does.
-/
module

public import proofs.«01_k».proof.Proof.Proto
public import proofs.«01_k».proof.Proof.Gen.KernelIdeal.Frame
public import Idealize.ShloMosaic.Lib.Pipeline.Value
public import Idealize.ShloMosaic.Lib.Pipeline.ReadBack

@[expose] public section

noncomputable section

namespace Cert.KernelIdeal.Reduce

open Cert.KernelIdeal Cert.KernelIdeal.Gen
open Idealize.ShloMosaic
open Idealize.ShloMosaic.TcCoe

variable {F : FTy → Type} [FloatOps F] [Named F]

/-! ## One device -/

section Device

variable (x : S1x256x1024.Idx → Elt F .f32) (wq : S1024x1024.Idx → Elt F .f32) (k v : S1x4096x8x128.Idx → Elt F .f32) (wo : S1024x1024.Idx → Elt F .f32)

theorem col_inb (h : Fin 8) : ∀ a, (![0, 128 * h.val] : Fin 2 → ℕ) a + S256x128.size a ≤ S256x1024.size a := by revert h; decide
theorem head_inb (h : Fin 8) : ∀ a, (![0, 0, h.val, 0] : Fin 4 → ℕ) a + S1x4096x1x128.size a ≤ S1x4096x8x128.size a := by revert h; decide
/-- The columns of head `h` in a buffer of all heads' columns, -/
abbrev colR (h : Fin 8) : Rect S256x1024 := Rect.unit (s := S256x1024) ![0, 128 * h.val] S256x128.size (col_inb h)
/-- and head `h` of a key or value block. -/
abbrev headR (h : Fin 8) : Rect S1x4096x8x128 := Rect.unit (s := S1x4096x8x128) ![0, 0, h.val, 0] S1x4096x1x128.size (head_inb h)

/-- The projected queries, scaled, as stored. -/
def qBuf : FVec F S256x1024 .bf16 := k0_pay12 (k0_pay11 x wq)
/-- What the mask adds to the scores. -/
def bias : FVec F S256x4096 .f32 :=
  k0_pay9 (k0_pay7 (iota .tc S256x4096 32 [0] iota_S256x4096_d0_w32) 64#32 k0_pay2 k0_pay3 k0_pay4)
    (k0_pay8 (iota .tc S256x4096 32 [0] iota_S256x4096_d0_w32) 64#32 k0_pay2 k0_pay3 k0_pay4)
/-- The queries, keys and values of head `h`. -/
def qHead (h : Fin 8) : Vec F S256x128 .bf16 := View.ld (Val := Elt F) (e' := .bf16) (qBuf x wq) (colR h)
def kHead (h : Fin 8) : Vec F S1x4096x1x128 .f32 := View.ld (Val := Elt F) (e' := .f32) k (headR h)
def vHead (h : Fin 8) : Vec F S1x4096x1x128 .f32 := View.ld (Val := Elt F) (e' := .f32) v (headR h)
/-- Head `h`'s context. -/
def headOf (h : Fin 8) : FVec F S256x128 .bf16 := k0_pay13 bias (qHead x wq h) (kHead k h) k0_pay10 (vHead v h)
/-- The context buffer: the heads' contexts side by side. -/
def ctxBuf : FVec F S256x1024 .bf16 := fun i =>
  headOf x wq k v ⟨(i 1).val / 128, Nat.div_lt_of_lt_mul (i 1).isLt⟩ (fun a => match a with
    | ⟨0, _⟩ => i 0
    | ⟨1, _⟩ => ⟨(i 1).val % 128, Nat.mod_lt _ (by decide)⟩)

omit [FloatOps F] [Named F] in
theorem zero2 : (![0, 0] : Fin 2 → ℕ) = fun _ => 0 := funext fun a => by fin_cases a <;> rfl
omit [FloatOps F] [Named F] in
theorem zero3 : (![0, 0, 0] : Fin 3 → ℕ) = fun _ => 0 := funext fun a => by fin_cases a <;> rfl

/-- The whole of the projection's, the context's and the ones' buffer as a rectangle. -/
abbrev wholeR : Rect S256x1024 := Rect.unit (s := S256x1024) ![0, 0] S256x1024.size inb_S256x1024_S256x1024_0_0
abbrev onesR : Rect S4096x128 := Rect.unit (s := S4096x128) ![0, 0] S4096x128.size inb_S4096x128_S4096x128_0_0

/-- Head `h`'s context as the body computes it: from its loads of the stored projection, of the blocks and of the stored ones. -/
def headRun (qs : List (View.Piece (Elt F) S256x1024 .bf16)) (os : List (View.Piece (Elt F) S4096x128 .bf16)) (h : Fin 8) : FVec F S256x128 .bf16 :=
  k0_pay13 bias ((Memref.whole cc0_scratch2).view.readCov qs (colR h).toLoadRect)
    ((Memref.whole cc0_stg1_0).view.readAt (Elt F) (headR h).toLoadRect k)
    ((Memref.whole cc0_scratch4).view.readCov os onesR.toLoadRect)
    ((Memref.whole cc0_stg2_0).view.readAt (Elt F) (headR h).toLoadRect v)

theorem headRun_eq (h : Fin 8) : headRun k v [⟨wholeR, qBuf x wq⟩] [⟨onesR, k0_pay10⟩] h = headOf x wq k v h := by
  have e1 : (Memref.whole cc0_scratch4).view.readCov (Val := Elt F) [⟨onesR, k0_pay10⟩] onesR.toLoadRect = k0_pay10 :=
    View.readCov_unit_zero (S := S4096x128) _ zero2 _ _
  have e2 : (Memref.whole cc0_scratch2).view.readCov (Val := Elt F) [⟨wholeR, qBuf x wq⟩] (colR h).toLoadRect = qHead x wq h :=
    View.readCov_fill (s := S256x1024) _ _ _ _ _ (fun a => by fin_cases a <;> rfl)
  unfold headRun headOf
  rw [e1, e2]
  rfl

/-- The context buffer at column `x` of head `h` is head `h`'s context there. -/
theorem ctxBuf_emb (h : Fin 8) (i : S256x128.Idx) : ctxBuf x wq k v ((colR h).emb i) = headOf x wq k v h i := by
  have hi : (i 1).val < 128 := (i 1).isLt
  have e1 : (((colR h).emb i) 1).val = 128 * h.val + (i 1).val := congrArg (128 * h.val + ·) (Nat.one_mul _)
  have e0 : (((colR h).emb i) 0).val = (i 0).val := (congrArg (0 + ·) (Nat.one_mul _)).trans (Nat.zero_add _)
  unfold ctxBuf
  congr 1
  · refine Fin.ext ?_
    show (((colR h).emb i) 1).val / 128 = h.val
    rw [e1]; omega
  · funext a
    fin_cases a
    · exact Fin.ext e0
    · refine Fin.ext ?_
      show (((colR h).emb i) 1).val % 128 = (i 1).val
      rw [e1]; omega

/-- Every column belongs to a head. -/
theorem mem_colR (y : S256x1024.Idx) : ∃ h : Fin 8, y ∈ (colR h).set := by
  have hy : (y 1).val < 1024 := (y 1).isLt
  refine ⟨⟨(y 1).val / 128, by omega⟩, ?_⟩
  rw [← Rect.map_emb_univ]
  refine Finset.mem_map.mpr ⟨fun a => match a with
    | ⟨0, _⟩ => y 0
    | ⟨1, _⟩ => ⟨(y 1).val % 128, Nat.mod_lt _ (by decide)⟩, Finset.mem_univ _, ?_⟩
  funext a
  fin_cases a
  · exact Fin.ext ((congrArg (0 + ·) (Nat.one_mul _)).trans (Nat.zero_add _))
  · refine Fin.ext ((congrArg (128 * ((y 1).val / 128) + ·) (Nat.one_mul _)).trans ?_)
    show 128 * ((y 1).val / 128) + (y 1).val % 128 = (y 1).val
    omega

theorem mem_heads : ∀ h : Fin 8, h ∈ ([7, 6, 5, 4, 3, 2, 1, 0] : List (Fin 8)) := by decide

/-- After the eight heads' stores the context buffer reads as the heads side by side. -/
theorem ctx_read : (Memref.whole cc0_scratch3).view.readCov (Val := Elt F)
      (([7, 6, 5, 4, 3, 2, 1, 0] : List (Fin 8)).map fun h => ⟨colR h, headOf x wq k v h⟩) wholeR.toLoadRect = ctxBuf x wq k v := by
  rw [View.readCov_eq_canon']
  funext j
  have hj : wholeR.toLoadRect.idx j = j := funext fun a => by
    fin_cases a <;> exact Fin.ext ((congrArg (0 + ·) (Nat.one_mul _)).trans (Nat.zero_add _))
  rw [hj]
  refine View.canon_apply_of_pieces (Val := Elt F) (S := S256x1024) (e := .bf16) (ctxBuf x wq k v) _ (fun p hp i => ?_) j ?_
  · obtain ⟨h, -, rfl⟩ := List.mem_map.mp hp
    exact (ctxBuf_emb x wq k v h i).symm
  · obtain ⟨h, hy⟩ := mem_colR j
    exact ⟨_, List.mem_map.mpr ⟨h, mem_heads h, rfl⟩, hy⟩

end Device

/-- One store over the whole of a buffer leaves what was stored. -/
theorem writes_whole (b : Ref sig .tc) {z : Fin b.ty.shape.rank → ℕ} (hz : z = fun _ => 0)
    (inb : ∀ j, z j + b.ty.shape.size j ≤ b.ty.shape.size j) (f w : b.ty.Contents (Elt F)) :
    (Memref.whole b).view.writes (Elt F) f [⟨Rect.unit z b.ty.shape.size inb, w⟩] = w :=
  Memref.write_access_unit_zero_univ (Elt F) b hz inb f w
/-- A buffer stored to as a whole holds what was stored: the send buffer, -/
theorem writes_send (f : S256x1024.Idx → Elt F .bf16) (w : S256x1024.Idx → Elt F .bf16) :
    (Memref.whole cc0_scratch5).view.writes (Elt F) f [⟨wholeR, w⟩] = w :=
  writes_whole cc0_scratch5 zero2 inb_S256x1024_S256x1024_0_0 f w
/-- and the result's buffer. -/
theorem writes_out (f w : S1x256x1024.Idx → Elt F .f32) :
    (Memref.whole cc0_stg3_0).view.writes (Elt F) f
      [⟨Rect.unit (s := S1x256x1024) ![0, 0, 0] S1x256x1024.size inb_S1x256x1024_S1x256x1024_0_0_0, w⟩] = w :=
  writes_whole cc0_stg3_0 zero3 inb_S1x256x1024_S1x256x1024_0_0_0 f w

/-! ## The all-reduce -/

section All

variable (ctx : Dev nD → FVec F S256x1024 .bf16) (wo : Dev nD → S1024x1024.Idx → Elt F .f32)

/-- What a slot of the landing buffer reads as when `z` has been sent to it. -/
def landed (z : S256x1024.Idx → Elt F .bf16) : Vec F S1x256x1024 .bf16 := shapeCast S1x256x1024 z (by decide)

theorem casts_slot : S1x256x1024.ShapeCasts S256x1024 := by decide
/-- So a slot holding `z` is read. -/
theorem slot_read (k : Fin 3) (c : Dev nD) (f : Buf (Elt F) ((rM).view.loc (c : Thread nD τ))) (z : S256x1024.Idx → Elt F .bf16)
    (h : (slotM k).view.read (Elt F) f = z) : (rM).view.readAt (Elt F) (slotR k).toLoadRect f = landed z := by
  have e := Memref.read_squeeze_slice (Val := Elt F) rM (slotR k) (fun _ => rfl) squeezes_S1x256x1024_S256x1024 casts_slot f
  unfold landed
  rw [← h]
  refine ((shapeCast_shapeCast _ _ _).symm.trans (congrArg (fun u => shapeCast S1x256x1024 u _) e.symm) : _)

/-- The device's own product, and as it is sent; the sums after steps 0 and 1, and as they are sent; the total. -/
def acc0 (c : Dev nD) : FVec F S256x1024 .f32 := k0_pay26 (ctx c) (wo c)
def z0 (c : Dev nD) : FVec F S256x1024 .bf16 := k0_pay27 (ctx c) (wo c)
def acc1 (c : Dev nD) : FVec F S256x1024 .f32 := k0_pay28 (acc0 ctx wo c) (landed (z0 ctx wo (peer 0 c)))
def z1 (c : Dev nD) : FVec F S256x1024 .bf16 := k0_pay29 (acc0 ctx wo c) (landed (z0 ctx wo (peer 0 c)))
def acc2 (c : Dev nD) : FVec F S256x1024 .f32 := k0_pay30 (acc1 ctx wo c) (landed (z1 ctx wo (peer 1 c)))
def z2 (c : Dev nD) : FVec F S256x1024 .bf16 := k0_pay31 (acc1 ctx wo c) (landed (z1 ctx wo (peer 1 c)))
def outOf (c : Dev nD) : FVec F S1x256x1024 .f32 := k0_pay1 (acc2 ctx wo c) (landed (z2 ctx wo (peer 2 c)))
/-- What device `c` sends at step `k`. -/
def sent (k : Fin 3) (c : Dev nD) : S256x1024.Idx → Elt F .bf16 := match k with
  | 0 => z0 ctx wo c
  | 1 => z1 ctx wo c
  | 2 => z2 ctx wo c

end All

/-! ## The blocks -/

variable (m : (ℓ : Loc nD τ sig) → Buf (Elt F) ℓ)

/-- Device `c`'s block of the activations, keys and values, and its slices of the two weights. -/
def xB (c : Dev nD) : S1x256x1024.Idx → Elt F .f32 := iblk m c 0 t0_0
def kB (c : Dev nD) : S1x4096x8x128.Idx → Elt F .f32 := iblk m c 1 t0_0
def vB (c : Dev nD) : S1x4096x8x128.Idx → Elt F .f32 := iblk m c 2 t0_0
abbrev wqM (c : Dev nD) : Memref sig .tc .hbm S1024x1024 .f32 :=
  (Memref.whole main_arg1).slice (Rect.unit (s := S1024x8192) (k0_off1 c) S1024x1024.size (k0_off1_inb c)) (fun _ => rfl)
abbrev woM (c : Dev nD) : Memref sig .tc .hbm S1024x1024 .f32 :=
  (Memref.whole main_arg4).slice (Rect.unit (s := S8192x1024) (k0_off2 c) S1024x1024.size (k0_off2_inb c)) (fun _ => rfl)
def wqB (c : Dev nD) : S1024x1024.Idx → Elt F .f32 := (wqM c).view.read (Elt F) (V m c main_arg1)
def woB (c : Dev nD) : S1024x1024.Idx → Elt F .f32 := (woM c).view.read (Elt F) (V m c main_arg4)

/-- The context buffer of device `c`, what it sends at step `k`, and its result. -/
def ctxAt (c : Dev nD) : FVec F S256x1024 .bf16 := ctxBuf (xB m c) (wqB m c) (kB m c) (vB m c)
def sentAt (k : Fin 3) (c : Dev nD) : S256x1024.Idx → Elt F .bf16 := sent (ctxAt m) (woB m) k c
def outAt (c : Dev nD) : S1x256x1024.Idx → Elt F .f32 := outOf (ctxAt m) (woB m) c

end Cert.KernelIdeal.Reduce

end
-- ==== Proof.Body.lean ====
/-
# One device's run

The kernel's body is followed at a symbolic device `c`, from its blocks of the arguments to its block of the result: three
signals and the wait for three, the two local transfers of weights, eight heads of attention, the device's product with its
rows of the output weight, and three rounds of sending a partial sum, receiving the partner's and adding.
-/
module

public import proofs.«01_k».proof.Proof.Steps
public import proofs.«01_k».proof.Proof.Values

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

abbrev pts (c : Dev nD) {sp : Space} {s : Shape} {e : EltTy} (M : Memref sig .tc sp s e) (f : M.view.ref.ty.Contents (Elt F)) : sProp 𝕄 :=
  M.view.loc (c : Thread nD τ) ↦{fullShare} f

abbrev body : Prog (TpuEff nD τ sig (Elt F) Λ₀ .tc) PUnit :=
  cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9

variable (Z : Fin 3 → Dev nD → S256x1024.Idx → Elt F .bf16) (K : Dev nD × Ix → ℕ)

/-- What device `c` holds when its body has run: nothing owed, its block of the result, its arguments as they were, its
    scratch buffers and every semaphore of its own at zero. -/
def finished (m : (ℓ : Loc nD τ sig) → Buf (Elt F) ℓ) (c : Dev nD) : sProp 𝕄 :=
  iprop((∃ W, owes (c : Thread nD τ) 0 W)
    ∗ (semVal (barCell c) 0 ∗ semVal (locCell 0 c) 0 ∗ semVal (locCell 1 c) 0
      ∗ semVal (sendCell 0 c) 0 ∗ semVal (sendCell 1 c) 0 ∗ semVal (sendCell 2 c) 0
      ∗ semVal (recvCell 0 c) 0 ∗ semVal (recvCell 1 c) 0 ∗ semVal (recvCell 2 c) 0)
    ∗ ((∃ f, slotPts 0 c f) ∗ (∃ f, slotPts 1 c f) ∗ (∃ f, slotPts 2 c f))
    ∗ (pts c (Memref.whole main_arg1) (V m c main_arg1) ∗ pts c (Memref.whole main_arg4) (V m c main_arg4))
    ∗ (pts c (Memref.whole cc0_stg0_0) (xB m c) ∗ pts c (Memref.whole cc0_stg1_0) (kB m c)
      ∗ pts c (Memref.whole cc0_stg2_0) (vB m c) ∗ pts c (Memref.whole cc0_stg3_0) (outAt m c))
    ∗ (∃ f, pts c (Memref.whole cc0_scratch0) f) ∗ (∃ f, pts c (Memref.whole cc0_scratch1) f) ∗ (∃ f, pts c (Memref.whole cc0_scratch2) f)
    ∗ (∃ f, pts c (Memref.whole cc0_scratch3) f) ∗ (∃ f, pts c (Memref.whole cc0_scratch4) f) ∗ (∃ f, pts c (Memref.whole cc0_scratch5) f))

/-- The tokens of device `c`: it may pay its partners' barriers and receive semaphores and its own send semaphores; and its
    positions at its own. -/
def tokens (c : Dev nD) : sProp 𝕄 :=
  iprop((dutyTok ER (barCell (peer 0 c)) 0 0 ∗ dutyTok ER (barCell (peer 1 c)) 0 1 ∗ dutyTok ER (barCell (peer 2 c)) 0 2)
    ∗ (dutyTok ER (sendCell 0 c) 0 0 ∗ dutyTok ER (sendCell 1 c) 0 1 ∗ dutyTok ER (sendCell 2 c) 0 2)
    ∗ (dutyTok ER (recvCell 0 (peer 0 c)) 0 0 ∗ dutyTok ER (recvCell 1 (peer 1 c)) 0 1 ∗ dutyTok ER (recvCell 2 (peer 2 c)) 0 2)
    ∗ (atPos ER (barCell c) 0 ∅ 0 ∗ atPos ER (sendCell 0 c) 0 ∅ 0 ∗ atPos ER (sendCell 1 c) 0 ∅ 0 ∗ atPos ER (sendCell 2 c) 0 ∅ 0
      ∗ atPos ER (recvCell 0 c) 0 ∅ 0 ∗ atPos ER (recvCell 1 c) 0 ∅ 0 ∗ atPos ER (recvCell 2 c) 0 ∅ 0))

/-- The credits of device `c`: what its partners owe its barrier and receive semaphores. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

/-- What device `c` owes once its partners are signalled. -/
abbrev owe1 (c : Dev nD) : CellTallies nD τ sig Unit := 0 + oweR 2 c + oweR 1 c + oweR 0 c

theorem above_owe1 (c : Dev nD) : Above 1 (owe1 c) :=
  above_add (above_add (above_add (above_zero _) (above_oweR 2 c (by decide))) (above_oweR 1 c (by decide))) (above_oweR 0 c (by decide))

theorem above_rest1 (n : ℕ) (c : Dev nD) (h : n < 3) : Above n (0 + oweR 2 c + oweR 1 c) :=
  above_add (above_add (above_zero _) (above_oweR 2 c (h.trans (by decide)))) (above_oweR 1 c h)
theorem above_rest2 (n : ℕ) (c : Dev nD) (h : n < 4) : Above n (0 + oweR 2 c) :=
  above_add (above_zero _) (above_oweR 2 c h)

/-- The send buffer, stored to as a whole, may be sent. -/
theorem send_full (c : Dev nD) (g z z' : S256x1024.Idx → Elt F .bf16) (h : z = z') :
    pts (F := F) c (Memref.whole cc0_scratch5) ((Memref.whole cc0_scratch5).view.writes (Elt F) g [⟨wholeR, z⟩]) ⊢ sendPts c z' := by
  subst h
  rw [writes_send]
  unfold sendPts
  exact Entails.of_eq (congrArg (fun S => ((Memref.whole cc0_scratch5).view.loc (c : Thread nD τ) ↦[S]{fullShare} z : sProp 𝕄)) (View.set_whole cc0_scratch5).symm)

/-- And when it has been sent it is there to be stored to. -/
theorem send_back (c : Dev nD) (z : S256x1024.Idx → Elt F .bf16) : sendPts c z ⊢ pts (F := F) c (Memref.whole cc0_scratch5) z := by
  unfold sendPts
  exact Entails.of_eq (congrArg (fun S => ((Memref.whole cc0_scratch5).view.loc (c : Thread nD τ) ↦[S]{fullShare} z : sProp 𝕄)) (View.set_whole cc0_scratch5))

/-- The result's buffer, stored to as a whole, holds what was stored. -/
theorem out_full (c : Dev nD) (g z z' : S1x256x1024.Idx → Elt F .f32) (h : z = z') :
    pts (F := F) c (Memref.whole cc0_stg3_0) ((Memref.whole cc0_stg3_0).view.writes (Elt F) g
      [⟨Rect.unit (s := S1x256x1024) ![0, 0, 0] S1x256x1024.size inb_S1x256x1024_S1x256x1024_0_0_0, z⟩])
      ⊢ pts (F := F) c (Memref.whole cc0_stg3_0) z' := by
  subst h
  rw [writes_out]

set_option maxHeartbeats 4000000 in
/-- Device `c`'s run. -/
theorem run_device (m) (c : Dev nD) (f5 g0 g1 g2 g3 g4 g5) (W) (Kt : PUnit → sProp 𝕄) :
    iprop((records (sentAt m) K ∗ (tokens c ∗ credits c) ∗ levAts L lv ∗ owes (c : Thread nD τ) (O₀ c) W
       ∗ semVal (locCell 0 c) 0 ∗ semVal (locCell 1 c) 0
       ∗ (∃ f, slotPts 0 c f) ∗ (∃ f, slotPts 1 c f) ∗ (∃ f, slotPts 2 c f)
       ∗ pts c (Memref.whole cc0_stg0_0) (xB m c) ∗ pts c (Memref.whole main_arg1) (V m c main_arg1)
       ∗ pts c (Memref.whole cc0_stg1_0) (kB m c) ∗ pts c (Memref.whole cc0_stg2_0) (vB m c)
       ∗ pts c (Memref.whole main_arg4) (V m c main_arg4) ∗ pts c (Memref.whole cc0_stg3_0) f5
       ∗ pts c (Memref.whole cc0_scratch0) g0 ∗ pts c (Memref.whole cc0_scratch1) g1 ∗ pts c (Memref.whole cc0_scratch2) g2
       ∗ pts c (Memref.whole cc0_scratch3) g3 ∗ pts c (Memref.whole cc0_scratch4) g4 ∗ pts c (Memref.whole cc0_scratch5) g5)
      ∗ (finished m c -∗ Kt ⟨⟩))
      ⊢ wp frame (wpE (defs₀ (F := F)) 𝒱₀ (c : Thread nD τ) none) Set.univ body Kt := by
  unfold tokens credits
  iintro ⟨⟨#HR, ⟨⟨⟨Htb0, Htb1, Htb2⟩, ⟨Hts0, Hts1, Hts2⟩, ⟨Htr0, Htr1, Htr2⟩, ⟨Hab, Has0, Has1, Has2, Har0, Har1, Har2⟩⟩, ⟨Hcb, Hcr0, Hcr1, Hcr2⟩⟩, #Hlev, HO, Hl0, Hl1, Hsl0, Hsl1, Hsl2, Hx, Hwq, Hk, Hv, Hwo, Ho, Hs0, Hs1, Hq, Hctx, Hones, Hsend⟩, Hk'⟩
  unfold body
  sl_unfold [cc0_body, k0_part1, k0_part2, k0_part3, k0_part4, k0_part5, k0_part6, k0_part7, k0_part8, k0_part9, k0_part10, k0_part11]
  sl_exec
  iapply (wp_signal_partner (sentAt m) K 0 c _ (dev1_eq c)) $$ [HO Htb0 Hsl0]
  · unfold O₀
    isplitr; · iexact HR
    isplitl [HO]; · iexact HO
    isplitl [Htb0]; · iexact Htb0
    iexact Hsl0
  iintro HO
  sl_exec
  iapply (wp_signal_partner (sentAt m) K 1 c _ (dev2_eq c)) $$ [HO Htb1 Hsl1]
  · isplitr; · iexact HR
    isplitl [HO]; · iexact HO
    isplitl [Htb1]; · iexact Htb1
    iexact Hsl1
  iintro HO
  sl_exec
  iapply (wp_signal_partner (sentAt m) K 2 c _ (dev3_eq c)) $$ [HO Htb2 Hsl2]
  · isplitr; · iexact HR
    isplitl [HO]; · iexact HO
    isplitl [Htb2]; · iexact Htb2
    iexact Hsl2
  iintro HO
  sl_exec
  iapply (wp_wait_partners (sentAt m) K c (O := owe1 c) (above_owe1 c)) $$ [HO Hcb Hab]
  · isplitr; · iexact HR
    isplitr; · iexact Hlev
    isplitl [HO]; · iexact HO
    isplitl [Hcb]; · iexact Hcb
    iexact Hab
  iintro ⟨HO, Hab, Hp0, Hp1, Hp2⟩
  have hmw0 : (levAts L lv : sProp 𝕄) ⊢ MayWait (c : Thread nD τ) (.dma (locS 0)) () (owe1 c) :=
    mayWait_above (above_owe1 c) c _ (by rw [lv_other c _ (loc_ne_recv 0)]; exact Nat.zero_le _)
  have hmw1 : (levAts L lv : sProp 𝕄) ⊢ MayWait (c : Thread nD τ) (.dma (locS 1)) () (owe1 c) :=
    mayWait_above (above_owe1 c) c _ (by rw [lv_other c _ (loc_ne_recv 1)]; exact Nat.zero_le _)
  sl_exec
  have hwq : run_device.sl.v108 m c g0 = wqB m c := by
    unfold run_device.sl.v108
    rw [View.write_whole_univ]
    exact Memref.readAt_unit_zero (Elt F) cc0_scratch0 zero2 _ _
  have hwo : run_device.sl.v289 m c g1 = woB m c := by
    unfold run_device.sl.v289
    rw [View.write_whole_univ]
    exact Memref.readAt_unit_zero (Elt F) cc0_scratch1 zero2 _ _
  have hq : run_device.sl.Hq_1 m c g0 = [⟨wholeR, qBuf (xB m c) (wqB m c)⟩] := by
    rw [← hwq]
    have hx : (Memref.whole cc0_stg0_0).view.readAt (Elt F) (Rect.unit (s := S1x256x1024) ![0, 0, 0] S1x256x1024.size inb_S1x256x1024_S1x256x1024_0_0_0).toLoadRect (xB m c) = xB m c :=
      Memref.readAt_unit_zero (Elt F) cc0_stg0_0 zero3 _ _
    conv_rhs => rw [← hx]
    rfl
  have hctx : run_device.sl.Hctx_8 m c g0 = ([7, 6, 5, 4, 3, 2, 1, 0] : List (Fin 8)).map fun h => ⟨colR h, headOf (xB m c) (wqB m c) (kB m c) (vB m c) h⟩ := by
    have e : run_device.sl.Hctx_8 m c g0 = ([7, 6, 5, 4, 3, 2, 1, 0] : List (Fin 8)).map fun h =>
        ⟨colR h, headRun (kB m c) (vB m c) (run_device.sl.Hq_1 m c g0) [⟨onesR, k0_pay10⟩] h⟩ := rfl
    rw [e, hq]
    exact List.map_congr_left fun h _ => congrArg (fun u => (⟨colR h, u⟩ : Σ r : Rect S256x1024, r.shape.Idx → Elt F .bf16)) (headRun_eq _ _ _ _ h)
  have h288 : run_device.sl.v288 m c g0 = ctxAt m c := by
    unfold run_device.sl.v288
    rw [hctx]
    exact ctx_read _ _ _ _
  have hacc0 : k0_pay26 (run_device.sl.v288 m c g0) (run_device.sl.v289 m c g1) = acc0 (ctxAt m) (woB m) c := by rw [h288, hwo]; rfl
  have hz0 : k0_pay27 (run_device.sl.v288 m c g0) (run_device.sl.v289 m c g1) = sentAt m 0 c := by rw [h288, hwo]; rfl
  unfold barPay
  icases Hp0 with ⟨Hp0, #Hq0r⟩
  icases Hp1 with ⟨Hp1, #Hq1r⟩
  icases Hp2 with ⟨Hp2, #Hq2r⟩
  ihave Hsend := (send_full c g5 _ _ hz0) $$ [Hsend]; · iexact Hsend
  iapply (wp_send_partner (sentAt m) K 0 c _ (dev4_eq c) (O := 0 + oweR 2 c + oweR 1 c)) $$ [HO Hsend Hp0 Hts0 Htr0]
  · isplitr; · iexact HR
    isplitl [HO]; · iexact HO
    isplitl [Hsend]; · iexact Hsend
    isplitl [Hp0]; · iexact Hp0
    isplitl [Hts0]; · iexact Hts0
    iexact Htr0
  iintro ⟨Hcs0, HO⟩
  sl_exec
  iapply (wp_wait_sent (sentAt m) K 0 c (O := 0 + oweR 2 c + oweR 1 c) (above_rest1 0 c (by decide))) $$ [HO Hcs0 Has0]
  · isplitr; · iexact HR
    isplitr; · iexact Hlev
    isplitl [HO]; · iexact HO
    isplitl [Hcs0]; · iexact Hcs0
    iexact Has0
  iintro ⟨HO, Has0, Hsend⟩
  sl_exec
  iapply (wp_wait_landed (sentAt m) K 0 c (O := 0 + oweR 2 c + oweR 1 c) (above_rest1 2 c (by decide))) $$ [HO Hcr0 Har0]
  · isplitr; · iexact HR
    isplitr; · iexact Hlev
    isplitl [HO]; · iexact HO
    isplitl [Hcr0]; · iexact Hcr0
    iexact Har0
  iintro ⟨HO, Har0, Hr0⟩
  unfold slotHolds
  icases Hr0 with ⟨%r0, %hr0, Hr0⟩
  unfold slotPts
  ihave Hsend := (send_back c (sentAt m 0 c)) $$ Hsend
  sl_exec
  have hz1 : k0_pay29 (k0_pay26 (run_device.sl.v288 m c g0) (run_device.sl.v289 m c g1)) ((rM).view.readAt (Elt F) (slotR 0).toLoadRect r0)
      = sentAt m 1 c := by
    rw [hacc0, slot_read 0 c r0 _ hr0]; rfl
  have hacc1 : k0_pay28 (k0_pay26 (run_device.sl.v288 m c g0) (run_device.sl.v289 m c g1)) ((rM).view.readAt (Elt F) (slotR 0).toLoadRect r0)
      = acc1 (ctxAt m) (woB m) c := by
    rw [hacc0, slot_read 0 c r0 _ hr0]; rfl
  ihave Hsend := (send_full c (sentAt m 0 c) _ _ hz1) $$ [Hsend]; · iexact Hsend
  iapply (wp_send_partner (sentAt m) K 1 c _ (dev5_eq c) (O := 0 + oweR 2 c)) $$ [HO Hsend Hp1 Hts1 Htr1]
  · isplitr; · iexact HR
    isplitl [HO]; · iexact HO
    isplitl [Hsend]; · iexact Hsend
    isplitl [Hp1]; · iexact Hp1
    isplitl [Hts1]; · iexact Hts1
    iexact Htr1
  iintro ⟨Hcs1, HO⟩
  sl_exec
  iapply (wp_wait_sent (sentAt m) K 1 c (O := 0 + oweR 2 c) (above_rest2 0 c (by decide))) $$ [HO Hcs1 Has1]
  · isplitr; · iexact HR
    isplitr; · iexact Hlev
    isplitl [HO]; · iexact HO
    isplitl [Hcs1]; · iexact Hcs1
    iexact Has1
  iintro ⟨HO, Has1, Hsend⟩
  sl_exec
  iapply (wp_wait_landed (sentAt m) K 1 c (O := 0 + oweR 2 c) (above_rest2 3 c (by decide))) $$ [HO Hcr1 Har1]
  · isplitr; · iexact HR
    isplitr; · iexact Hlev
    isplitl [HO]; · iexact HO
    isplitl [Hcr1]; · iexact Hcr1
    iexact Har1
  iintro ⟨HO, Har1, Hr1⟩
  unfold slotHolds
  icases Hr1 with ⟨%r1, %hr1, Hr1⟩
  unfold slotPts
  ihave Hsend := (send_back c (sentAt m 1 c)) $$ Hsend
  sl_exec
  have hz2 : k0_pay31 (k0_pay28 (k0_pay26 (run_device.sl.v288 m c g0) (run_device.sl.v289 m c g1)) ((rM).view.readAt (Elt F) (slotR 0).toLoadRect r0))
      ((rM).view.readAt (Elt F) (slotR 1).toLoadRect r1) = sentAt m 2 c := by
    rw [hacc1, slot_read 1 c r1 _ hr1]; rfl
  have hacc2 : k0_pay30 (k0_pay28 (k0_pay26 (run_device.sl.v288 m c g0) (run_device.sl.v289 m c g1)) ((rM).view.readAt (Elt F) (slotR 0).toLoadRect r0))
      ((rM).view.readAt (Elt F) (slotR 1).toLoadRect r1) = acc2 (ctxAt m) (woB m) c := by
    rw [hacc1, slot_read 1 c r1 _ hr1]; rfl
  ihave Hsend := (send_full c (sentAt m 1 c) _ _ hz2) $$ [Hsend]; · iexact Hsend
  iapply (wp_send_partner (sentAt m) K 2 c _ (dev6_eq c) (O := 0)) $$ [HO Hsend Hp2 Hts2 Htr2]
  · isplitr; · iexact HR
    isplitl [HO]; · iexact HO
    isplitl [Hsend]; · iexact Hsend
    isplitl [Hp2]; · iexact Hp2
    isplitl [Hts2]; · iexact Hts2
    iexact Htr2
  iintro ⟨Hcs2, HO⟩
  sl_exec
  iapply (wp_wait_sent (sentAt m) K 2 c (O := 0) (above_zero 0)) $$ [HO Hcs2 Has2]
  · isplitr; · iexact HR
    isplitr; · iexact Hlev
    isplitl [HO]; · iexact HO
    isplitl [Hcs2]; · iexact Hcs2
    iexact Has2
  iintro ⟨HO, Has2, Hsend⟩
  sl_exec
  iapply (wp_wait_landed (sentAt m) K 2 c (O := 0) (above_zero 4)) $$ [HO Hcr2 Har2]
  · isplitr; · iexact HR
    isplitr; · iexact Hlev
    isplitl [HO]; · iexact HO
    isplitl [Hcr2]; · iexact Hcr2
    iexact Har2
  iintro ⟨HO, Har2, Hr2⟩
  unfold slotHolds
  icases Hr2 with ⟨%r2, %hr2, Hr2⟩
  unfold slotPts
  ihave Hsend := (send_back c (sentAt m 2 c)) $$ Hsend
  sl_exec
  have hout : k0_pay1 (k0_pay30 (k0_pay28 (k0_pay26 (run_device.sl.v288 m c g0) (run_device.sl.v289 m c g1)) ((rM).view.readAt (Elt F) (slotR 0).toLoadRect r0))
      ((rM).view.readAt (Elt F) (slotR 1).toLoadRect r1)) ((rM).view.readAt (Elt F) (slotR 2).toLoadRect r2) = outAt m c := by
    rw [hacc2, slot_read 2 c r2 _ hr2]; rfl
  ihave Ho := (out_full c f5 _ _ hout) $$ [Ho]; · iexact Ho
  imod (close_cell (sentAt m) K (c, none)) $$ [Hab] with Hab
  · isplitr; · iexact HR
    iexact Hab
  imod (close_cell (sentAt m) K (c, some (false, 0))) $$ [Has0] with Has0
  · isplitr; · iexact HR
    iexact Has0
  imod (close_cell (sentAt m) K (c, some (false, 1))) $$ [Has1] with Has1
  · isplitr; · iexact HR
    iexact Has1
  imod (close_cell (sentAt m) K (c, some (false, 2))) $$ [Has2] with Has2
  · isplitr; · iexact HR
    iexact Has2
  imod (close_cell (sentAt m) K (c, some (true, 0))) $$ [Har0] with Har0
  · isplitr; · iexact HR
    iexact Har0
  imod (close_cell (sentAt m) K (c, some (true, 1))) $$ [Har1] with Har1
  · isplitr; · iexact HR
    iexact Har1
  imod (close_cell (sentAt m) K (c, some (true, 2))) $$ [Har2] with Har2
  · isplitr; · iexact HR
    iexact Har2
  rw [wp_ret]; imodintro
  iapply Hk'
  unfold finished
  isplitl [HO]; · iexists _; iexact HO
  isplitl [Hab Hl0 Hl1 Has0 Has1 Has2 Har0 Har1 Har2]
  · isplitl [Hab]; · iexact Hab
    isplitl [Hl0]; · iexact Hl0
    isplitl [Hl1]; · iexact Hl1
    isplitl [Has0]; · iexact Has0
    isplitl [Has1]; · iexact Has1
    isplitl [Has2]; · iexact Has2
    isplitl [Har0]; · iexact Har0
    isplitl [Har1]; · iexact Har1
    iexact Har2
  isplitl [Hr0 Hr1 Hr2]
  · unfold slotPts
    isplitl [Hr0]; · iexists r0; iexact Hr0
    isplitl [Hr1]; · iexists r1; iexact Hr1
    iexists r2; iexact Hr2
  isplitl [Hwq Hwo]
  · isplitl [Hwq]; · iexact Hwq
    iexact Hwo
  isplitl [Hx Hk Hv Ho]
  · isplitl [Hx]; · iexact Hx
    isplitl [Hk]; · iexact Hk
    isplitl [Hv]; · iexact Hv
    iexact Ho
  isplitl [Hs0]; · iexists _; iexact Hs0
  isplitl [Hs1]; · iexists _; iexact Hs1
  isplitl [Hq]; · iexists _; iexact Hq
  isplitl [Hctx]; · iexists _; iexact Hctx
  isplitl [Hones]; · iexists _; iexact Hones
  iexists _; iexact Hsend

end Cert.KernelIdeal.Reduce
end
-- ==== Proof.Point.lean ====
/-
# The kernel's one grid point

The run of Body.lean as the pipeline wants it: what a device's state is before and after the point, and the step from the
one to the other. The landing buffer is given to the partners slot by slot and put together again at the end.
-/
module

public import proofs.«01_k».proof.Proof.Body
public import proofs.«01_k».proof.Proof.Gen.KernelIdeal.Points

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The slots of the landing buffer -/

/-- The elements of slot `k`. -/
abbrev slotSet (k : Fin 3) : Finset S3x256x1024.Idx := (slotM k).view.set

theorem slot_set (k : Fin 3) : slotSet k = (slotR k).set := by
  exact (View.set_reshape _ _).trans <|
    View.set_slice_whole cc0_scratch6 (slotR k)

theorem slots_disjoint (j k : Fin 3) (h : j ≠ k) : Disjoint (slotSet j) (slotSet k) := by
  rw [slot_set, slot_set]
  refine Rect.unit_disjoint 0 ?_
  show j.val + 1 ≤ k.val ∨ k.val + 1 ≤ j.val
  have : j.val ≠ k.val := fun e => h (Fin.ext e)
  omega

theorem slots_all : ((Finset.univ : Finset (Fin 3)).biUnion slotSet) = Finset.univ := by
  refine Finset.eq_univ_iff_forall.mpr fun y => Finset.mem_biUnion.mpr ?_
  have h0 : (y 0).val < 3 := (y 0).isLt
  refine ⟨⟨(y 0).val, h0⟩, Finset.mem_univ _, ?_⟩
  rw [slot_set, ← Rect.map_emb_univ]
  refine Finset.mem_map.mpr ⟨fun a => match a with
    | ⟨0, _⟩ => ⟨0, Nat.one_pos⟩
    | ⟨1, _⟩ => y 1
    | ⟨2, _⟩ => y 2, Finset.mem_univ _, ?_⟩
  funext a
  fin_cases a
  · exact Fin.ext (Nat.add_zero _)
  · exact Fin.ext ((congrArg (0 + ·) (Nat.one_mul _)).trans (Nat.zero_add _))
  · exact Fin.ext ((congrArg (0 + ·) (Nat.one_mul _)).trans (Nat.zero_add _))

omit [FloatOps F] [Named F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The landing buffer falls into its three slots, -/
theorem slots_split (c : Dev nD) (f : Buf (Elt F) ((c : Thread nD τ).loc cc0_scratch6)) :
    (((c : Thread nD τ).loc cc0_scratch6 ↦{fullShare} f : sProp 𝕄)) ⊢ iprop((∃ f, slotPts 0 c f) ∗ (∃ f, slotPts 1 c f) ∗ (∃ f, slotPts 2 c f)) := by
  have e := pointsTo_biUnion (Ix := Unit) (Name := ℕ) (U := UU) (Lvl := ℕ) (ℓ := (c : Thread nD τ).loc cc0_scratch6) (q := fullShare) (f := f)
    (Finset.univ : Finset (Fin 3)) slotSet (fun j _ k _ h => slots_disjoint j k h)
  rw [slots_all, bigSep_fin3] at e
  iintro H
  ihave H := (Entails.of_eq e) $$ H
  icases H with ⟨H0, H1, H2⟩
  unfold slotPts
  isplitl [H0]; · iexists f; iexact H0
  isplitl [H1]; · iexists f; iexact H1
  iexists f; iexact H2

/-- and is put together from them. -/
theorem slots_join (c : Dev nD) :
    iprop((∃ f, slotPts 0 c f) ∗ (∃ f, slotPts 1 c f) ∗ (∃ f, slotPts 2 c f)) ⊢ (∃ f : Buf (Elt F) ((c : Thread nD τ).loc cc0_scratch6), ((c : Thread nD τ).loc cc0_scratch6 ↦{fullShare} f) : sProp 𝕄) := by
  iintro ⟨⟨%f0, H0⟩, ⟨%f1, H1⟩, ⟨%f2, H2⟩⟩
  have e := pointsTo_biUnion_join (Ix := Unit) (Name := ℕ) (U := UU) (Lvl := ℕ) (ℓ := (c : Thread nD τ).loc cc0_scratch6) (q := fullShare)
    (Finset.univ : Finset (Fin 3)) slotSet (![f0, f1, f2]) f0 (fun j _ k _ h => slots_disjoint j k h)
  rw [slots_all, bigSep_fin3] at e
  unfold slotPts
  ihave H := e $$ [H0 H1 H2]
  · isplitl [H0]; · iexact H0
    isplitl [H1]; · iexact H1
    iexact H2
  icases H with ⟨%g, -, H⟩
  iexists g; iexact H

/-! ## Before and after the point -/

variable (m : (ℓ : Loc nD τ sig) → Buf (Elt F) ℓ) (ρ : Dev nD → PrngReg)

def s₀ : MemSt nD τ sig (Elt F) := ⟨m, fun _ => 0, ρ⟩

/-- What device `c`'s body starts from, apart from its buffers in scratch memory. -/
def start (c : Dev nD) : sProp 𝕄 :=
  iprop((∃ K, records (sentAt m) K ∗ tokens c ∗ semVal (locCell 0 c) 0 ∗ semVal (locCell 1 c) 0) ∗ credits c ∗ levAts L lv
    ∗ pts c (Memref.whole main_arg1) (V m c main_arg1) ∗ pts c (Memref.whole main_arg4) (V m c main_arg4))

/-- The scratch buffers. -/
def scratch (c : Dev nD) : sProp 𝕄 :=
  iprop((∃ f, pts c (Memref.whole cc0_scratch0) f) ∗ (∃ f, pts c (Memref.whole cc0_scratch1) f) ∗ (∃ f, pts c (Memref.whole cc0_scratch2) f)
    ∗ (∃ f, pts c (Memref.whole cc0_scratch3) f) ∗ (∃ f, pts c (Memref.whole cc0_scratch4) f) ∗ (∃ f, pts c (Memref.whole cc0_scratch5) f)
    ∗ (∃ f, pts c (Memref.whole cc0_scratch6) f))

/-- The semaphores of device `c` at zero. -/
def ownZero (c : Dev nD) : sProp 𝕄 :=
  iprop(semVal (locCell 0 c) 0 ∗ semVal (locCell 1 c) 0 ∗ semVal (sendCell 0 c) 0 ∗ semVal (sendCell 1 c) 0 ∗ semVal (sendCell 2 c) 0
    ∗ semVal (recvCell 0 c) 0 ∗ semVal (recvCell 1 c) 0 ∗ semVal (recvCell 2 c) 0)

def Φ₀ (c : Dev nD) : sProp 𝕄 := iprop(start m c ∗ scratch c)
def Φ₁ (c : Dev nD) : sProp 𝕄 :=
  iprop((semVal (barCell c) 0 ∗ pts c (Memref.whole main_arg1) (V m c main_arg1) ∗ pts c (Memref.whole main_arg4) (V m c main_arg4))
    ∗ ownZero c ∗ scratch c)

/-- The pipeline's data: the windows' arrays as found, and the blocks in the staging buffers after the point. -/
def dats (_ : Fin 1) (c : Dev nD) : Dat τ (Elt F) Unit ℕ UU ℕ cfg0 c where
  A w := m ((cfg0.win w).arr.view.loc (c : Thread nD τ))
  after w _ := match w with
    | ⟨0, _⟩ => xB m c
    | ⟨1, _⟩ => kB m c
    | ⟨2, _⟩ => vB m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer's contents, as the pipeline says it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

def pointPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def pointPost (c : Dev nD) : sProp 𝕄 :=
  iprop(Φ₁ m c ∗ (dats m 0 c).owesAt () t0_0.succ
    ∗ stg c cc0_stg0_0 (xB m c) ∗ stg c cc0_stg1_0 (kB m c) ∗ stg c cc0_stg2_0 (vB m c) ∗ stg c cc0_stg3_0 (outAt m c))

/-- Having finished, device `c` is in the state after the point. -/
theorem finish (c : Dev nD) : finished m c ⊢ pointPost m c := by
  unfold finished pointPost Φ₁ ownZero scratch Dat.owesAt Pipeline.owesWithin
  rw [show (dats m 0 c).owed t0_0.succ = 0 from rfl]
  iintro ⟨⟨%W, HO⟩, ⟨Hb, Hown⟩, Hr, ⟨Hwq, Hwo⟩, ⟨Hx, Hk, Hv, Ho⟩, H0, H1, H2, H3, H4, H5⟩
  ihave H6 := (slots_join c) $$ Hr
  isplitl [Hb Hwq Hwo Hown H0 H1 H2 H3 H4 H5 H6]
  · isplitl [Hb Hwq Hwo]
    · isplitl [Hb]; · iexact Hb
      isplitl [Hwq]; · iexact Hwq
      iexact Hwo
    isplitl [Hown]; · iexact Hown
    isplitl [H0]; · iexact H0
    isplitl [H1]; · iexact H1
    isplitl [H2]; · iexact H2
    isplitl [H3]; · iexact H3
    isplitl [H4]; · iexact H4
    isplitl [H5]; · iexact H5
    iexact H6
  isplitl [HO]
  · iexists W
    isplitr; · ipureintro; exact fun _ _ => Or.inl trivial
    iexact HO
  isplitl [Hx]
  · iexists _; isplitr; · (ipureintro; rfl)
    iexact Hx
  isplitl [Hk]
  · iexists _; isplitr; · (ipureintro; rfl)
    iexact Hk
  isplitl [Hv]
  · iexists _; isplitr; · (ipureintro; rfl)
    iexact Hv
  iexists _; isplitr; · (ipureintro; rfl)
  iexact Ho

/-- From the state before the point the body runs to the state after it. -/
theorem point (c : Dev nD) : pointPre m c ⊢ wp frame (wpE (defs₀ (F := F)) 𝒱₀ (c : Thread nD τ) none) Set.univ body (fun _ => pointPost m c) := by
  unfold pointPre Φ₀ start scratch Dat.owesAt Pipeline.owesWithin
  iintro ⟨⟨⟨⟨%K, #HR, Ht, Hl0, Hl1⟩, Hc, #Hlev, Hwq, Hwo⟩, ⟨%g0, H0⟩, ⟨%g1, H1⟩, ⟨%g2, H2⟩, ⟨%g3, H3⟩, ⟨%g4, H4⟩, ⟨%g5, H5⟩, ⟨%g6, H6⟩⟩,
    ⟨%W, %hW, HO⟩, ⟨%d0, %x0, %hx, Hx⟩, ⟨%d1, %x1, %hk, Hk⟩, ⟨%d2, %x2, %hv, Hv⟩, ⟨%d3, %x3, %ho, Ho⟩⟩
  have hx' : x0 = xB m c := by rw [hx]; unfold Dat.before; rw [if_pos (fetch0_0 t0_0)]; rfl
  have hk' : x1 = kB m c := by rw [hk]; unfold Dat.before; rw [if_pos (fetch0_1 t0_0)]; rfl
  have hv' : x2 = vB m c := by rw [hv]; unfold Dat.before; rw [if_pos (fetch0_2 t0_0)]; rfl
  subst hx' hk' hv'
  rw [show (dats m 0 c).owed t0_0.castSucc = O₀ c from rfl]
  ihave Hs := (slots_split c g6) $$ H6
  icases Hs with ⟨Hs0, Hs1, Hs2⟩
  iapply (run_device K m c x3 g0 g1 g2 g3 g4 g5 W fun _ => pointPost m c)
  isplitr []
  · isplitr; · iexact HR
    isplitl [Ht Hc]; · isplitl [Ht] <;> iassumption
    isplitr; · iexact Hlev
    isplitl [HO]; · iexact HO
    isplitl [Hl0]; · iexact Hl0
    isplitl [Hl1]; · iexact Hl1
    isplitl [Hs0]; · iexact Hs0
    isplitl [Hs1]; · iexact Hs1
    isplitl [Hs2]; · iexact Hs2
    isplitl [Hx]; · iexact Hx
    isplitl [Hwq]; · iexact Hwq
    isplitl [Hk]; · iexact Hk
    isplitl [Hv]; · iexact Hv
    isplitl [Hwo]; · iexact Hwo
    isplitl [Ho]; · iexact Ho
    isplitl [H0]; · iexact H0
    isplitl [H1]; · iexact H1
    isplitl [H2]; · iexact H2
    isplitl [H3]; · iexact H3
    isplitl [H4]; · iexact H4
    iexact H5
  · iintro H
    iapply (finish m c); iexact H

set_option maxRecDepth 4000 in
/-- What the pipeline asks of the body. -/
theorem body_obligation (c : Dev nD) : BodyObligation (dats (F := F) m 0 c) (defs₀ (F := F)) 𝒱₀ () Set.univ := fun t => by
  rw [fin_N0 t]
  rw [bigSep_W, bigSep_W]
  simp only [owns_whole]
  exact point m c

end Cert.KernelIdeal.Reduce
end
-- ==== Proof.Run.lean ====
/-
# The launch

All eight devices together: the shared semaphores are set up, each device gets its tokens and credits, and by Point.lean every
run ends with each device's result in its array, its arguments as they were and every semaphore at zero.
-/
module

public import proofs.«01_k».proof.Proof.Point
public import Idealize.ShloMosaic.Lib.Pipeline.Launch
public import Idealize.ShloMosaic.Lib.Pipeline.CollectiveSegs
public import Idealize.ShloMosaic.Lib.Pipeline.ValueKit.Geometry
public import Idealize.ShloMosaic.Lib.Claim

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The kernel's own semaphores in scratch memory. -/
abbrev osem : Fin 8 → SemLoc sig := fun
  | 0 => .dma (locS 0) | 1 => .dma (locS 1)
  | 2 => .dma (sendS 0) | 3 => .dma (sendS 1) | 4 => .dma (sendS 2)
  | 5 => .dma (recvS 0) | 6 => .dma (recvS 1) | 7 => .dma (recvS 2)

theorem ownSemFacts : Pipeline.OwnSemFacts cfg0.spec osem := by decide

theorem share_eq (c : Dev nD) (w : Fin cfg0.W) : (dats m 0 c).share w = fullShare := by unfold Dat.share; split <;> rfl

/-! ## The shared semaphores and their tokens -/

theorem ksem_injective : Function.Injective ksem := by decide
theorem kcell_injective : Function.Injective (kcell : Dev nD × Ix → GSem nD τ sig) := by
  rintro ⟨c, i⟩ ⟨c', i'⟩ h
  have h1 : c = c' := congrArg (fun g : GSem nD τ sig => g.1.1) h
  have h2 : i = i' := ksem_injective (congrArg Prod.snd h)
  rw [h1, h2]
def ringCells : Finset (GSem nD τ sig) := Finset.univ.map ⟨kcell, kcell_injective⟩

/-- The duties of a device's shared semaphores: `(0, k)` partner `k`'s signal to its barrier, `(1, k)` and `(2, k)` the
    transfer at the send and at the receive semaphore of step `k`. -/
def tokIx : Fin 3 × Fin 3 → Ix
  | (0, _) => none
  | (1, k) => some (false, k)
  | (2, k) => some (true, k)
abbrev tokOf (cj : Dev nD × (Fin 3 × Fin 3)) : GSem nD τ sig × ℕ × Fin 3 := (kcell (cj.1, tokIx cj.2), 0, cj.2.2)
theorem tokIx_injective : Function.Injective fun j : Fin 3 × Fin 3 => (tokIx j, j.2) := by decide
theorem tokOf_injective : Function.Injective tokOf := by
  rintro ⟨c, j⟩ ⟨c', j'⟩ h
  have hk := kcell_injective (congrArg (fun x : GSem nD τ sig × ℕ × Fin 3 => x.1) h)
  have h1 : c = c' := congrArg Prod.fst hk
  have h2 : j = j' := tokIx_injective (Prod.ext (congrArg Prod.snd hk) (congrArg (fun x : GSem nD τ sig × ℕ × Fin 3 => x.2.2) h))
  rw [h1, h2]
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, (1 : Counters)))

omit [FloatOps F] [Named F] in
/-- The launch's ghost state falls into the pipeline's and the shared semaphores'. -/
theorem ownU_split (a : UR sig nD τ) (b : UB) :
    (ownU (a, (b, (1 : Counters))) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens of device `c`'s own semaphores. -/
def toks (c : Dev nD) : sProp 𝕄 :=
  iprop((dutyTok ER (barCell c) 0 0 ∗ dutyTok ER (barCell c) 0 1 ∗ dutyTok ER (barCell c) 0 2)
    ∗ (dutyTok ER (sendCell 0 c) 0 0 ∗ dutyTok ER (sendCell 1 c) 0 1 ∗ dutyTok ER (sendCell 2 c) 0 2)
    ∗ (dutyTok ER (recvCell 0 c) 0 0 ∗ dutyTok ER (recvCell 1 c) 0 1 ∗ dutyTok ER (recvCell 2 c) 0 2))

/-- What the launch's ghost state gives device `c`. -/
def G (c : Dev nD) : sProp 𝕄 :=
  iprop((bigSep Finset.univ fun i : Ix => roundState ER (reduceRd (sentAt m)) (kcell (c, i)) 0)
    ∗ (bigSep Finset.univ fun i : Ix => iprop(atPos ER (kcell (c, i)) 0 ∅ 0 ∗ reached ER (kcell (c, i)) 0)) ∗ toks c)

/-- And what device `c` has of it once the semaphores are shared. -/
def G' (c : Dev nD) : sProp 𝕄 := iprop(∃ K, records (sentAt m) K ∗ tokens c ∗ semVal (locCell 0 c) 0 ∗ semVal (locCell 1 c) 0)

omit [FloatOps F] [Named F] in
theorem bigSep_Ix (Φ : Ix → sProp 𝕄) : bigSep Finset.univ Φ = iprop(Φ none ∗ Φ (some (false, 0)) ∗ Φ (some (false, 1)) ∗ Φ (some (false, 2))
    ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Ix => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3, bigSep_fin3, bigSep_fin3, bigSep_fin3]; rfl
  iintro HX
  imod (Rounds.fund ER (reduceRd (sentAt m)) ringCells ringToks) $$ HX with ⟨Hst, Hr, Hat, Htok⟩
  imodintro
  ihave Hst' := (Entails.of_eq (hX fun g => roundState ER (reduceRd (sentAt m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Sharing the semaphores -/

theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5, 6, 7] (by decide) (by decide)]; rfl
/-- The barrier semaphore is the one semaphore outside scratch memory. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores: the shared ones, and the two of its local transfers. -/
theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun i : Ix => semVal (kcell (c, i)) 0) ∗ semVal (locCell 0 c) 0 ∗ semVal (locCell 1 c) 0 : sProp 𝕄) := by
  rw [ownSems0_eq, unscopedSems0_eq, bigSep_Ix]
  unfold ownZero
  iintro ⟨⟨H0, H1, H2⟩, HB⟩
  isplitr [H0 H1]
  · isplitl [HB]; · iexact HB
    iexact H2
  isplitl [H0] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (reduceRd (sentAt m)) κ (kcell (c, i))))
          ∗ (bigSep Finset.univ fun i => iprop(atPos ER (kcell (c, i)) 0 ∅ 0 ∗ reached ER (kcell (c, i)) 0))
          ∗ toks c ∗ semVal (locCell 0 c) 0 ∗ semVal (locCell 1 c) 0) := by
  unfold G
  iintro ⟨Hos, Hus, Hst, Hat, Htok⟩
  ihave Hv := (sems0_split (F := F) c) $$ [Hos Hus]
  · isplitl [Hos] <;> iassumption
  icases Hv with ⟨Hv, Hl⟩
  imod (show iprop((bigSep Finset.univ fun i : Ix => semVal (kcell (c, i)) 0) ∗ bigSep Finset.univ fun i : Ix => roundState ER (reduceRd (sentAt m)) (kcell (c, i)) 0)
      ⊢ (|={Set.univ}=> bigSep Finset.univ fun i => iprop(∃ κ : ℕ, cellInv ER (reduceRd (sentAt m)) κ (kcell (c, i))) : sProp 𝕄) from by
        rw [← bigSep_sep']
        exact (bigSep_mono fun i _ => (Rounds.body_intro ER (reduceRd (sentAt m)) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- The tokens of a semaphore's partner duties, dealt to the partners. -/
theorem toks_swap (k : Fin 3) (g : Dev nD → GSem nD τ sig) :
    (bigSep Finset.univ fun c : Dev nD => (dutyTok ER (g c) 0 k : sProp 𝕄)) = bigSep Finset.univ fun c : Dev nD => dutyTok ER (g (peer k c)) 0 k :=
  bigSep_univ_equiv (swap k) (fun c : Dev nD => (dutyTok ER (g c) 0 k : sProp 𝕄))

/-- The tokens each device pays with. -/
def payToks (c : Dev nD) : sProp 𝕄 :=
  iprop((dutyTok ER (barCell (peer 0 c)) 0 0 ∗ dutyTok ER (barCell (peer 1 c)) 0 1 ∗ dutyTok ER (barCell (peer 2 c)) 0 2)
    ∗ (dutyTok ER (sendCell 0 c) 0 0 ∗ dutyTok ER (sendCell 1 c) 0 1 ∗ dutyTok ER (sendCell 2 c) 0 2)
    ∗ (dutyTok ER (recvCell 0 (peer 0 c)) 0 0 ∗ dutyTok ER (recvCell 1 (peer 1 c)) 0 1 ∗ dutyTok ER (recvCell 2 (peer 2 c)) 0 2))

theorem toks_deal : (bigSep Finset.univ fun c : Dev nD => (toks c : sProp 𝕄)) = bigSep Finset.univ fun c : Dev nD => payToks c := by
  unfold toks payToks
  simp only [bigSep_sep']
  rw [toks_swap 0 barCell, toks_swap 1 barCell, toks_swap 2 barCell, toks_swap 0 (recvCell 0), toks_swap 1 (recvCell 1), toks_swap 2 (recvCell 2)]

omit [FloatOps F] [Named F] in
/-- What may be used again and again goes to every member of a family. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with device `c`: its positions, the tokens it pays with, and its local semaphores. -/
def linear (c : Dev nD) : sProp 𝕄 :=
  iprop((bigSep Finset.univ fun i : Ix => atPos ER (kcell (c, i)) 0 ∅ 0) ∗ payToks c ∗ semVal (locCell 0 c) 0 ∗ semVal (locCell 1 c) 0)

theorem share_intro (K : Dev nD × Ix → ℕ) (c : Dev nD) : iprop(records (sentAt m) K ∗ linear c) ⊢ G' m c := by
  unfold linear payToks G' tokens
  rw [bigSep_Ix]
  iintro ⟨#HR, Hat, ⟨Hb, Hs, Hr⟩, Hl⟩
  iexists K
  isplitr; · iexact HR
  isplitr [Hl]
  · isplitl [Hb]; · iexact Hb
    isplitl [Hs]; · iexact Hs
    isplitl [Hr]; · iexact Hr
    iexact Hat
  iexact Hl

theorem regroup :
    (bigSep Finset.univ fun c : Dev nD => iprop((bigSep Finset.univ fun i => iprop(∃ κ : ℕ, cellInv ER (reduceRd (sentAt m)) κ (kcell (c, i))))
          ∗ (bigSep Finset.univ fun i => iprop(atPos ER (kcell (c, i)) 0 ∅ 0 ∗ reached ER (kcell (c, i)) 0))
          ∗ toks c ∗ semVal (locCell 0 c) 0 ∗ semVal (locCell 1 c) 0) : sProp 𝕄)
      ⊢ bigSep Finset.univ (G' m) := by
  simp only [bigSep_sep']
  rw [← bigSep_univ_prod (fun ci : Dev nD × Ix => iprop(∃ κ : ℕ, cellInv ER (reduceRd (sentAt m)) κ (kcell ci))),
    ← bigSep_univ_prod (fun ci : Dev nD × Ix => (reached ER (kcell ci) 0 : sProp 𝕄)), toks_deal]
  iintro ⟨HI, ⟨Hat, #HR⟩, Htok, Hl⟩
  ihave HK := (BI.bigSep_exists_pi Finset.univ (fun (ci : Dev nD × Ix) (κ : ℕ) => (cellInv ER (reduceRd (sentAt m)) κ (kcell ci) : sProp 𝕄))) $$ HI
  icases HK with ⟨%K, #HI⟩
  iapply (bigSep_share (R := records (sentAt m) K) fun c _ => share_intro m K c)
  isplitr
  · unfold records; rw [bigSep_sep']
    isplitl; · iexact HI
    iexact HR
  · unfold linear; simp only [bigSep_sep']
    isplitl [Hat]; · iexact Hat
    isplitl [Htok]; · iexact Htok
    iexact Hl

/-- All devices' semaphores are shared at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem tally_self (g : GSem nD τ sig) (n : ℕ) : (tallyAt g () n : CellTallies nD τ sig Unit) g () = n := by
  rw [tallyAt_apply, if_pos ⟨rfl, rfl⟩]
theorem tally_other {g g' : GSem nD τ sig} (n : ℕ) (h : g' ≠ g) : (tallyAt g () n : CellTallies nD τ sig Unit) g' () = 0 := by
  rw [tallyAt_apply, if_neg fun e => h e.1]

theorem peer_eq_iff (k : Fin 3) (c d : Dev nD) : c = peer k d ↔ d = peer k c := by revert k c d; decide

/-- What device `d` owes device `c`'s barrier for step `k`: one unit if it is `c`'s partner, -/
theorem oweU_bar (k : Fin 3) (d c : Dev nD) : oweU k d (barCell c) () = if d = peer k c then 1 else 0 := by
  unfold oweU
  by_cases h : d = peer k c
  · rw [if_pos h, h, peer_peer, tally_self]
  · rw [if_neg h, tally_other]
    exact fun e => h ((peer_eq_iff k c d).mp (congrArg (fun g : GSem nD τ sig => g.1.1) e))
theorem oweR_bar (k : Fin 3) (d c : Dev nD) : oweR k d (barCell c) () = 0 := tally_other _ fun e => dma_ne_bar _ (congrArg Prod.snd e).symm
theorem oweU_recv (j k : Fin 3) (d c : Dev nD) : oweU j d (recvCell k c) () = 0 := tally_other _ fun e => dma_ne_bar _ (congrArg Prod.snd e)
/-- and its receive semaphore of step `k`: the transfer's amount. -/
theorem oweR_recv (j k : Fin 3) (d c : Dev nD) : oweR j d (recvCell k c) () = if j = k then (if d = peer k c then N else 0) else 0 := by
  unfold oweR
  by_cases hj : j = k
  · subst hj
    by_cases h : d = peer j c
    · rw [if_pos rfl, if_pos h, h, peer_peer, tally_self]
    · rw [if_pos rfl, if_neg h, tally_other]
      exact fun e => h ((peer_eq_iff j c d).mp (congrArg (fun g : GSem nD τ sig => g.1.1) e))
  · rw [if_neg hj, tally_other]
    exact fun e => hj (recvS_inj (congrArg Prod.snd e)).symm

theorem owes_bar (d c : Dev nD) : O₀ d (barCell c) () = (if d = peer 2 c then 1 else 0) + (if d = peer 1 c then 1 else 0) + (if d = peer 0 c then 1 else 0) := by
  unfold O₀
  simp only [Pi.add_apply, Finsupp.add_apply, oweR_bar, oweU_bar, Pi.zero_apply, Finsupp.zero_apply, Nat.zero_add]
theorem owes_recv (k : Fin 3) (d c : Dev nD) : O₀ d (recvCell k c) () = if d = peer k c then N else 0 := by
  unfold O₀
  simp only [Pi.add_apply, Finsupp.add_apply, oweR_recv, oweU_recv, Pi.zero_apply, Finsupp.zero_apply, Nat.add_zero, Nat.zero_add]
  fin_cases k <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib, Finset.sum_add_distrib]
  simp only [Finset.sum_ite_eq', Finset.mem_univ, if_true]
theorem launch_recv (k : Fin 3) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owes_recv k d c]
  simp only [Finset.sum_ite_eq', Finset.mem_univ, if_true]

/-- The semaphores a device is given credits for. -/
def credited : List (SemLoc sig) := [.reg barS, .dma (recvS 0), .dma (recvS 1), .dma (recvS 2)]
theorem credited_nodup : credited.Nodup := by decide

theorem creds (c : Dev nD) : (Pipeline.launchCred O₀ c : sProp 𝕄) ⊢ credits c := by
  unfold Pipeline.launchCred credits
  refine (BI.bigSep_subset (Finset.subset_univ credited.toFinset)).trans ?_
  rw [bigSep_eq_bigSepL_of_eq credited rfl credited_nodup, ← launch_bar, ← launch_recv, ← launch_recv, ← launch_recv]
  exact BI.Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hwq, Hwo⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hwq]; · iexact Hwq
    iexact Hwo
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What device `c` holds outside scratch memory when it is done. -/
def kept (c : Dev nD) : sProp 𝕄 :=
  iprop(unscopedSems0 c ∗ ((c : Thread nD τ).loc main_arg1 ↦{fullShare} m ((c : Thread nD τ).loc main_arg1))
    ∗ ((c : Thread nD τ).loc main_arg4 ↦{fullShare} m ((c : Thread nD τ).loc main_arg4)))

theorem phi1_exit (c : Dev nD) :
    (dats m 0 c).Φ (Fin.last cfg0.N) ⊢ iprop(kept m c ∗ Pipeline.ownSems0 osem c ∗ Pipeline.scopedRest cfg0.spec c) := by
  unfold kept
  rw [show (dats m 0 c).Φ (Fin.last cfg0.N) = Φ₁ m c from rfl, scopedRest0_eq, ownSems0_eq, unscopedSems0_eq]
  unfold Φ₁ scratch
  exact BI.Entails.refl _

theorem waits (c : Dev nD) : (levAts L lv : sProp 𝕄) ⊢ Pipeline.cellsWaits cfgs (dats m) () 0 c :=
  Pipeline.cellsWaits_intro cfgs (dats m) () 0 c fun w s t =>
    mayWait_above (n := 0) (by
      rcases t with ⟨_ | _, ht⟩
      · exact above_O₀ c
      · exact above_zero 0) c _ (by
      rw [lv_other c _ (by fin_cases w <;> fin_cases s <;> decide)])

/-! ## The run -/

/-- What a run leaves: on every device the result in its array, and the five arguments as they were. -/
def Post (r : PUnit × MemSt nD τ sig (Elt F)) : Prop := ∀ c : Dev nD,
  (∀ w : Fin cfg0.W, r.2.mem ((cfg0.win w).arr.view.loc (c : Thread nD τ)) = (dats m 0 c).arrAt w cfg0.N)
  ∧ r.2.mem ((c : Thread nD τ).loc main_arg1) = m ((c : Thread nD τ).loc main_arg1)
  ∧ r.2.mem ((c : Thread nD τ).loc main_arg4) = m ((c : Thread nD τ).loc main_arg4)

set_option maxRecDepth 8000 in
/-- From any memory with every semaphore at zero, every run of the eight devices ends, as `Post` says, with every semaphore at
    zero. -/
theorem run_main : θ_run defs (onTc (τ := τ) (main (F := F))) (s₀ m ρ) (fun r => Post m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1)
      ∧ s.mem ((c : Thread nD τ).loc main_arg4) = m ((c : Thread nD τ).loc main_arg4))
    (hY := fun c s' => by
      unfold kept
      iintro ⟨⟨Hu, H1, H4⟩, -, HSI⟩
      icombine HSI H1 gives %h1
      icombine HSI H4 gives %h4
      imod (Pipeline.unscopedSems0_read (X := unscopedSems0 c) (c := c) fupd_intro s') $$ [Hu HSI] with ⟨%hu, HSI⟩
      · isplitl [Hu] <;> iassumption
      imodintro
      isplitr; · ipureintro; exact ⟨hu, Buf.eq_of_forall_mem_univ h1, Buf.eq_of_forall_mem_univ h4⟩
      iexact HSI)
    (hQ := fun _ h hs => ⟨fun c => ⟨(h c).1, (h c).2.2.2⟩, sem_eq_zero hs fun c => (h c).2.2.1⟩)

/-- The result's array ends holding the device's result. -/
theorem final_out (c : Dev nD) : (dats m 0 c).arrAt 3 cfg0.N = outAt m c :=
  Pipeline.Dat.arrAt_eq_of_after_last (dats m 0 c) 3 t0_0 (by decide +kernel) (outAt m c) fun _ => rfl

/-- The five arguments of device `c` are as they were. -/
def Kept (r : PUnit × MemSt nD τ sig (Elt F)) (c : Dev nD) : Prop :=
  r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

theorem kept_of {r : PUnit × MemSt nD τ sig (Elt F)} (h : Post m r) (c : Dev nD) : Kept m r c :=
  ⟨((h c).1 0).trans ((dats m 0 c).arrAt_in 0 rfl _), (h c).2.1, ((h c).1 1).trans ((dats m 0 c).arrAt_in 1 rfl _),
    ((h c).1 2).trans ((dats m 0 c).arrAt_in 2 rfl _), (h c).2.2⟩

/-- Every run ends with the arguments as they were and every semaphore at zero. -/
theorem run_kept : θ_run defs (onTc (τ := τ) (main (F := F))) (s₀ m ρ) (fun r => (∀ c, Kept m r c) ∧ r.2.sem = fun _ => 0) :=
  θ_run_mono (run_main m ρ) fun _ h => ⟨kept_of m h.1, h.2⟩

/-- Every run ends with each device's result in its result array. -/
theorem run_value : θ_run defs (onTc (τ := τ) (main (F := F))) (s₀ m ρ)
    (fun r => ∀ c : Dev nD, r.2.mem ((c : Thread nD τ).loc main_v1) = outAt m c ∧ Kept m r c) :=
  θ_run_mono (run_main m ρ) fun _ h c => ⟨((h.1 c).1 3).trans (final_out m c), kept_of m h.1 c⟩

end Cert.KernelIdeal.Reduce
end
-- ==== Proof.Mask.lean ====
/-
# The block mask

A query of block `a` attends to a key of block `b` when they are the same block, or `b` is the first, or the two numbers add up to a
multiple of three. Both programs compute this by words: the block numbers by a division rounded down, and the remainder by three.
-/
module

public import Idealize.ShloMosaic.Lib.Pointwise

@[expose] public section

namespace Cert.Attention

open Idealize.ShloMosaic

/-- Whether queries of block `a` attend to keys of block `b`, as a one-bit word. -/
def kept (a b : ℕ) : BitVec 1 := if a = b ∨ b = 0 ∨ (a + b) % 3 = 0 then 1#1 else 0#1

/-- Every query attends to the keys of the first block. -/
theorem kept_zero (a : ℕ) : kept a 0 = 1#1 := by simp [kept]

/-- A one-bit word is one or zero. -/
theorem kept_cases (a b : ℕ) : kept a b = 1#1 ∨ kept a b = 0#1 := by
  unfold kept; split
  exacts [.inl rfl, .inr rfl]

/-- The vector unit's division by 64 rounded down, from a truncating one; -/
def blockVector (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)
/-- and the host's. -/
def blockHost (x : BitVec 32) : BitVec 32 :=
  Scalar.select
    (IntOp.andi
      (IntOp.cmpi .ne (if x = 0 then 0 else if x.msb = true then -1 else 1) (1 : BitVec 32))
      (IntOp.cmpi .ne (IntOp.remsi .host x 64#32) 0#32))
    (IntOp.subi (IntOp.divsi .host x 64#32) 1#32)
    (IntOp.divsi .host x 64#32)

/-- Of a position below 4096 the vector unit's is the number of its block of 64; -/
theorem blockVector_eq (i : Fin 4096) : blockVector (BitVec.ofNat 32 i.val) = BitVec.ofNat 32 (i.val / 64) := by
  revert i; decide +kernel
/-- and so is the host's. -/
theorem blockHost_eq (i : Fin 4096) : blockHost (BitVec.ofNat 32 i.val) = BitVec.ofNat 32 (i.val / 64) := by
  revert i; decide +kernel

/-- The mask the vector unit computes from the two block numbers; -/
def maskVector (a b : BitVec 32) : BitVec 1 :=
  IntOp.ori (IntOp.ori (IntOp.cmpi .eq a b) (IntOp.cmpi .eq b 0#32))
    (IntOp.cmpi .eq
      (Scalar.select
        (IntOp.andi (IntOp.xori (IntOp.cmpi .slt (IntOp.remsi .vector (IntOp.addi a b) 3#32) 0#32) (Scalar.cmpi .slt 3#32 0#32))
          (IntOp.cmpi .ne (IntOp.remsi .vector (IntOp.addi a b) 3#32) 0#32))
        (IntOp.addi (IntOp.remsi .vector (IntOp.addi a b) 3#32) 3#32)
        (IntOp.remsi .vector (IntOp.addi a b) 3#32))
      0#32)
/-- and the host. -/
def maskHost (a b : BitVec 32) : BitVec 1 :=
  IntOp.ori (IntOp.ori (IntOp.cmpi .eq a b) (IntOp.cmpi .eq b 0#32))
    (IntOp.cmpi .eq
      (Scalar.select
        (IntOp.andi (IntOp.cmpi .ne (IntOp.cmpi .slt (IntOp.remsi .host (IntOp.addi a b) 3#32) 0#32) (IntOp.cmpi .slt 3#32 0#32))
          (IntOp.cmpi .ne (IntOp.remsi .host (IntOp.addi a b) 3#32) 0#32))
        (IntOp.addi (IntOp.remsi .host (IntOp.addi a b) 3#32) 3#32)
        (IntOp.remsi .host (IntOp.addi a b) 3#32))
      0#32)

/-- For the block numbers that occur, the vector unit's mask is the one described; -/
theorem maskVector_eq (a : Fin 4) (b : Fin 64) : maskVector (BitVec.ofNat 32 a.val) (BitVec.ofNat 32 b.val) = kept a.val b.val := by
  revert a b; decide +kernel
/-- and so is the host's. -/
theorem maskHost_eq (a : Fin 4) (b : Fin 64) : maskHost (BitVec.ofNat 32 a.val) (BitVec.ofNat 32 b.val) = kept a.val b.val := by
  revert a b; decide +kernel

end Cert.Attention
-- ==== Proof.Softmax.lean ====
/-
# Softmax over the extended reals

The kernel divides the sum of the exponentials of the scores times the values by the sum of the exponentials; the reference divides
each exponential of the score less the row's greatest score, and sums last. For scores that are real numbers or minus infinity, one of
them real, and any values, the two agree.
-/
module

public import Idealize.ShloMosaic.PureOps.Ideal
public import Idealize.ShloMosaic.PureOps.Ideal.Laws
public import Idealize.ShloMosaic.Lib.Pointwise

@[expose] public section

noncomputable section

namespace Cert.Attention

open Idealize.ShloMosaic

/-- A sum of real numbers is the same number whether it is formed in the reals or in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor can be taken out of a sum of extended reals. -/
theorem sum_mul_coe {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, EReal.right_distrib_of_nonneg_of_ne_top (EReal.coe_nonneg.2 hr) (EReal.coe_ne_top r)]

/-- The exponential of a score, as a real number: zero for minus infinity. -/
def weight (s : EReal) : ℝ := if s = ⊥ then 0 else Real.exp s.toReal

theorem weight_nonneg (s : EReal) : 0 ≤ weight s := by
  unfold weight; split
  · exact le_rfl
  · exact (Real.exp_pos _).le

theorem weight_pos {s : EReal} (h : s ≠ ⊥) : 0 < weight s := by
  rw [weight, if_neg h]; exact Real.exp_pos _

/-- The exponential of a score that is not infinity is its weight. -/
theorem exp_eq {s : EReal} (h : s ≠ ⊤) : Ideal.exp s = (weight s : EReal) := by
  induction s with
  | bot => simp [weight]
  | coe r => simp [weight]
  | top => exact absurd rfl h

/-- Taking a real number off a score divides its weight. -/
theorem exp_sub {s : EReal} (h : s ≠ ⊤) (M : ℝ) : Ideal.exp (s - (M : EReal)) = ((weight s * Real.exp (-M) : ℝ) : EReal) := by
  induction s with
  | bot => simp [weight]
  | coe r => rw [← EReal.coe_sub, Ideal.exp_coe, weight, if_neg (EReal.coe_ne_bot r), EReal.toReal_coe, ← Real.exp_add, sub_eq_add_neg]
  | top => exact absurd rfl h

/-- **The two softmaxes agree**: weights taken less a real `M`, normalised and then summed against the values, are the sum against the
    values divided by the sum of the weights. -/
theorem softmax_eq {n : ℕ} (s v : Fin n → EReal) (M : ℝ) (hs : ∀ j, s j ≠ ⊤) (j₀ : Fin n) (h₀ : s j₀ ≠ ⊥) :
    ∑ j, v j * Ideal.div (Ideal.exp (s j - (M : EReal))) (∑ l, Ideal.exp (s l - (M : EReal)))
      = Ideal.div (∑ j, Ideal.exp (s j) * v j) (∑ j, Ideal.exp (s j)) := by
  have hP : 0 < ∑ j, weight (s j) := Finset.sum_pos' (fun j _ => weight_nonneg _) ⟨j₀, Finset.mem_univ _, weight_pos h₀⟩
  have hM : 0 < Real.exp (-M) := Real.exp_pos _
  have e1 : ∑ l, Ideal.exp (s l - (M : EReal)) = (((∑ j, weight (s j)) * Real.exp (-M) : ℝ) : EReal) := by
    rw [Finset.sum_mul, coe_sum]
    exact Finset.sum_congr rfl fun l _ => exp_sub (hs l) M
  have e2 : ∑ j, Ideal.exp (s j) = ((∑ j, weight (s j) : ℝ) : EReal) := by
    rw [coe_sum]
    exact Finset.sum_congr rfl fun l _ => exp_eq (hs l)
  rw [e1, e2, Ideal.div_coe hP.ne', sum_mul_coe _ _ _ (by positivity)]
  refine Finset.sum_congr rfl fun j _ => ?_
  rw [exp_sub (hs j), exp_eq (hs j), Ideal.div_coe (mul_pos hP hM).ne', mul_comm (weight (s j) : EReal) (v j), mul_assoc, ← EReal.coe_mul,
    ← EReal.coe_mul]
  congr 2
  field_simp

/-- Scaling each factor of a product of real vectors scales the product. -/
theorem dot_scale {n : ℕ} (q k : Fin n → ℝ) (r : ℝ) :
    ∑ d, ((q d : EReal) * (r : EReal)) * (k d : EReal) = (∑ d, (q d : EReal) * (k d : EReal)) * (r : EReal) := by
  simp only [← EReal.coe_mul, ← coe_sum]
  rw [Finset.sum_mul]
  exact congrArg _ (Finset.sum_congr rfl fun d _ => by ring)

/-- The greatest of finitely many numbers none of which is infinity, and one of which is not minus infinity, is a real number. -/
theorem fold_max_real {ι : Type} (l : List ι) (f : ι → EReal) (hf : ∀ i ∈ l, f i ≠ ⊤) (i₀ : ι) (h₀ : i₀ ∈ l) (hb : f i₀ ≠ ⊥) :
    ∃ M : ℝ, l.foldl (fun r i => max r (f i)) ⊥ = (M : EReal) := by
  have key : ∀ (l : List ι) (a : EReal), a ≠ ⊤ → (∀ i ∈ l, f i ≠ ⊤) →
      l.foldl (fun r i => max r (f i)) a ≠ ⊤ ∧ a ≤ l.foldl (fun r i => max r (f i)) a ∧ ∀ i ∈ l, f i ≤ l.foldl (fun r i => max r (f i)) a := by
    intro l
    induction l with
    | nil => exact fun a ha _ => ⟨ha, le_rfl, fun i hi => nomatch hi⟩
    | cons b l ih =>
      intro a ha hl
      obtain ⟨h1, h2, h3⟩ := ih (max a (f b)) (fun e => by rcases max_choice a (f b) with h | h <;> rw [h] at e; exacts [ha e, hl b (List.mem_cons_self ..) e])
        fun i hi => hl i (List.mem_cons_of_mem _ hi)
      refine ⟨h1, (le_max_left _ _).trans h2, fun i hi => ?_⟩
      rcases List.mem_cons.1 hi with rfl | hi
      exacts [(le_max_right _ _).trans h2, h3 i hi]
  obtain ⟨h1, -, h3⟩ := key l ⊥ (by simp) hf
  refine ⟨_, (EReal.coe_toReal h1 fun e => hb ?_).symm⟩
  exact le_bot_iff.1 (e ▸ h3 i₀ h₀)

/-- The score's scale, one over the square root of 128 rounded to single precision, as a real number; -/
def scale : ℝ := 11863283 / 134217728
/-- its pattern denotes it, -/
theorem ofBits_scale : Ideal.ofBits .f32 0x3DB504F3#32 = (scale : EReal) := by
  simp [Ideal.ofBits, Ideal.ieee, scale, -EReal.coe_mul]
  norm_num
/-- and this pattern minus infinity, -/
theorem ofBits_minus_infinity : Ideal.ofBits .f32 0xFF800000#32 = ⊥ := by
  simp [Ideal.ofBits, Ideal.ieee]
/-- and this one infinity. -/
theorem ofBits_infinity : Ideal.ofBits .f32 0x7F800000#32 = ⊤ := by
  simp [Ideal.ofBits, Ideal.ieee]

/-- A query's score against a key, minus infinity where the mask bit is zero; -/
def score (q k : Fin 128 → EReal) (b : BitVec 1) : EReal := Scalar.select b ((∑ d, q d * k d) * (scale : EReal)) ⊥
/-- and its attention: the values weighted by the exponentials of the scores, over the sum of those. -/
def attend (q : Fin 128 → EReal) (k : Fin 4096 → Fin 128 → EReal) (v : Fin 4096 → EReal) (b : Fin 4096 → BitVec 1) : EReal :=
  Ideal.div (∑ j, Ideal.exp (score q (k j) (b j)) * v j) (∑ j, Ideal.exp (score q (k j) (b j)))

/-- Every entry of a family is a real number. -/
def Reals {ι : Type} (f : ι → EReal) : Prop := ∀ i, ∃ r : ℝ, f i = (r : EReal)

/-- A sum of products of real numbers is a real number. -/
theorem sum_mul_real {ι : Type} (s : Finset ι) {f g : ι → EReal} (hf : Reals f) (hg : Reals g) : ∃ r : ℝ, ∑ i ∈ s, f i * g i = (r : EReal) := by
  choose a ha using hf
  choose b hb using hg
  exact ⟨∑ i ∈ s, a i * b i, by rw [coe_sum]; exact Finset.sum_congr rfl fun i _ => by rw [ha, hb, EReal.coe_mul]⟩

/-- The score of a real query against a real key is no infinity, -/
theorem score_ne_top {q k : Fin 128 → EReal} (hq : Reals q) (hk : Reals k) (b : BitVec 1) : score q k b ≠ ⊤ := by
  obtain ⟨r, hr⟩ := sum_mul_real Finset.univ hq hk
  unfold score Scalar.select
  split
  · rw [hr, ← EReal.coe_mul]; exact EReal.coe_ne_top _
  · simp
/-- and inside the mask not minus infinity either. -/
theorem score_ne_bot {q k : Fin 128 → EReal} (hq : Reals q) (hk : Reals k) : score q k 1#1 ≠ ⊥ := by
  obtain ⟨r, hr⟩ := sum_mul_real Finset.univ hq hk
  unfold score
  rw [ValueIdx.select_one, hr, ← EReal.coe_mul]
  exact EReal.coe_ne_bot _

/-- The score of a query scaled beforehand, with the mask's bias of zero or minus infinity added, is the score. -/
theorem scaled_score {q k : Fin 128 → EReal} (hq : Reals q) (hk : Reals k) (b : BitVec 1) :
    (∑ d, (q d * (scale : EReal)) * k d) + Scalar.select b 0 ⊥ = score q k b := by
  choose a ha using hq
  choose c hc using hk
  have e : ∑ d, (q d * (scale : EReal)) * k d = (∑ d, q d * k d) * (scale : EReal) := by
    simp only [ha, hc]; exact dot_scale a c scale
  rw [e]
  unfold score Scalar.select
  split
  · exact add_zero _
  · exact EReal.add_bot _

end Cert.Attention

end
-- ==== Proof.KernelValue.lean ====
/-
# The kernel's values at an index

Over the extended reals: each head's context is the attention of its queries, and the all-reduce's total on every device is the sum
of the eight devices' products.
-/
module

public import proofs.«01_k».proof.Proof.Values
public import proofs.«01_k».proof.Proof.Mask
public import proofs.«01_k».proof.Proof.Softmax

@[expose] public section

noncomputable section

namespace Cert.KernelIdeal.Reduce

open Cert.KernelIdeal Cert.KernelIdeal.Gen
open Idealize.ShloMosaic
open Idealize.ShloMosaic.TcCoe
open Cert.Attention

/-! ## The mask's bias -/

/-- The block number of a query, as the body computes it, -/
theorem queryBlock_apply (i : Fin 256) (j : Fin 4096) :
    k0_pay5 (iota .tc S256x4096 32 [0] iota_S256x4096_d0_w32) 64#32 k0_pay2 k0_pay3 k0_pay4 (ix2 i j) = BitVec.ofNat 32 (i.val / 64) := by
  pointwise [k0_pay5, k0_pay2, k0_pay3, k0_pay4]
  exact blockVector_eq ⟨i.val, by omega⟩
/-- and of a key. -/
theorem keyBlock_apply (i : Fin 256) (j : Fin 4096) : k0_pay6 (ix2 i j) = BitVec.ofNat 32 (j.val / 64) := by
  pointwise [k0_pay6]
  exact blockVector_eq j

/-- The bias is zero where the mask keeps the key and minus infinity elsewhere. -/
theorem bias_apply (i : Fin 256) (j : Fin 4096) : bias (F := Ideal) (ix2 i j) = Scalar.select (kept (i.val / 64) (j.val / 64)) 0 ⊥ := by
  pointwise [bias, k0_pay9, k0_pay8, k0_pay7]
  rw [queryBlock_apply, keyBlock_apply]
  exact congrArg₂ (fun b (z : EReal) => Scalar.select b 0 z) (maskVector_eq ⟨i.val / 64, by omega⟩ ⟨j.val / 64, by omega⟩)
    (IdealRules.named_const.ideal_named_scalar _ _ _ _ rfl)

/-! ## One head's context -/

section Device

variable (x : S1x256x1024.Idx → Elt Ideal .f32) (wq : S1024x1024.Idx → Elt Ideal .f32) (k v : S1x4096x8x128.Idx → Elt Ideal .f32)

/-- A query's entry before scaling. -/
def query (i : Fin 256) (n : Fin 1024) : EReal := ∑ e : Fin 1024, x (ix3 0 i e) * wq (ix2 e n)

theorem qHead_apply (h : Fin 8) (i : Fin 256) (d : Fin 128) :
    qHead x wq h (ix2 i d) = query x wq i ⟨128 * h.val + d.val, by omega⟩ * (scale : EReal) := by
  pointwise [qHead, qBuf, k0_pay12, k0_pay11]
  rw [ofBits_scale]
  rfl
theorem kHead_apply (h : Fin 8) (j : Fin 4096) (d : Fin 128) : kHead k h (ix4 0 j 0 d) = k (ix4 0 j h d) := by
  pointwise [kHead]
theorem vHead_apply (h : Fin 8) (j : Fin 4096) (d : Fin 128) : vHead v h (ix4 0 j 0 d) = v (ix4 0 j h d) := by
  pointwise [vHead]
theorem ones_apply (j : Fin 4096) (d : Fin 128) : k0_pay10 (F := Ideal) (ix2 j d) = 1 := by
  pointwise [k0_pay10]

variable {x wq k} (hx : Reals x) (hwq : Reals wq) (hk : Reals k)
include hx hwq hk

/-- **The kernel's context** of a query and a head's column is the query's attention. -/
theorem headOf_eq (h : Fin 8) (i : Fin 256) (d : Fin 128) :
    headOf x wq k v h (ix2 i d)
      = attend (fun d => query x wq i ⟨128 * h.val + d.val, by omega⟩) (fun j d => k (ix4 0 j h d)) (fun j => v (ix4 0 j h d))
          fun j => kept (i.val / 64) (j.val / 64) := by
  have hq : Reals fun d : Fin 128 => query x wq i ⟨128 * h.val + d.val, by omega⟩ := fun d => sum_mul_real _ (fun e => hx _) fun e => hwq _
  pointwise [headOf, k0_pay13]
  simp only [qHead_apply, kHead_apply, vHead_apply, ones_apply, bias_apply, mul_one]
  have e : ∀ j : Fin 4096, (∑ d : Fin 128, query x wq i ⟨128 * h.val + d.val, by omega⟩ * (scale : EReal) * k (ix4 0 j h d))
      + Scalar.select (kept (i.val / 64) (j.val / 64)) 0 ⊥ = score (fun d => query x wq i ⟨128 * h.val + d.val, by omega⟩)
        (fun d => k (ix4 0 j h d)) (kept (i.val / 64) (j.val / 64)) := fun j => scaled_score hq (fun d => hk _) _
  simp only [e]
  rfl

/-- The context buffer, column by column. -/
theorem ctxBuf_eq (i : Fin 256) (n : Fin 1024) :
    ctxBuf x wq k v (ix2 i n)
      = attend (fun d => query x wq i ⟨128 * (n.val / 128) + d.val, by omega⟩) (fun j d => k (ix4 0 j ⟨n.val / 128, by omega⟩ d))
          (fun j => v (ix4 0 j ⟨n.val / 128, by omega⟩ ⟨n.val % 128, by omega⟩)) fun j => kept (i.val / 64) (j.val / 64) := by
  refine Eq.trans ?_ (headOf_eq v hx hwq hk ⟨n.val / 128, by omega⟩ i ⟨n.val % 128, by omega⟩)
  unfold ctxBuf
  exact congrArg _ (funext fun a => by fin_cases a <;> rfl)

end Device

/-! ## The all-reduce -/

section All

variable (ctx : Dev nD → FVec Ideal S256x1024 .bf16) (wo : Dev nD → S1024x1024.Idx → Elt Ideal .f32)

theorem acc0_apply (c : Dev nD) (i : Fin 256) (n : Fin 1024) : acc0 ctx wo c (ix2 i n) = ∑ l : Fin 1024, ctx c (ix2 i l) * wo c (ix2 l n) := by
  pointwise [acc0, k0_pay26]
theorem z0_apply (c : Dev nD) (i : Fin 256) (n : Fin 1024) : z0 ctx wo c (ix2 i n) = acc0 ctx wo c (ix2 i n) := by
  pointwise [z0, k0_pay27, acc0]
theorem acc1_apply (c : Dev nD) (i : Fin 256) (n : Fin 1024) : acc1 ctx wo c (ix2 i n) = acc0 ctx wo c (ix2 i n) + acc0 ctx wo (peer 0 c) (ix2 i n) := by
  pointwise [acc1, k0_pay28, landed, z0_apply]
theorem z1_apply (c : Dev nD) (i : Fin 256) (n : Fin 1024) : z1 ctx wo c (ix2 i n) = acc1 ctx wo c (ix2 i n) := by
  pointwise [z1, k0_pay29, acc1, k0_pay28]
theorem acc2_apply (c : Dev nD) (i : Fin 256) (n : Fin 1024) : acc2 ctx wo c (ix2 i n) = acc1 ctx wo c (ix2 i n) + acc1 ctx wo (peer 1 c) (ix2 i n) := by
  pointwise [acc2, k0_pay30, landed, z1_apply]
theorem z2_apply (c : Dev nD) (i : Fin 256) (n : Fin 1024) : z2 ctx wo c (ix2 i n) = acc2 ctx wo c (ix2 i n) := by
  pointwise [z2, k0_pay31, acc2, k0_pay30]
theorem outOf_apply (c : Dev nD) (i : Fin 256) (n : Fin 1024) : outOf ctx wo c (ix3 0 i n) = acc2 ctx wo c (ix2 i n) + acc2 ctx wo (peer 2 c) (ix2 i n) := by
  pointwise [outOf, k0_pay1, landed, z2_apply]

/-- The three exchanges reach every device once. -/
theorem reached (c : Dev nD) :
    [c, peer 0 c, peer 1 c, peer 0 (peer 1 c), peer 2 c, peer 0 (peer 2 c), peer 1 (peer 2 c), peer 0 (peer 1 (peer 2 c))].Perm (List.finRange 8) := by
  revert c; decide
/-- So what they add up is the sum over the devices. -/
theorem exchanges (f : Dev nD → EReal) (c : Dev nD) :
    ((f c + f (peer 0 c)) + (f (peer 1 c) + f (peer 0 (peer 1 c))))
      + ((f (peer 2 c) + f (peer 0 (peer 2 c))) + (f (peer 1 (peer 2 c)) + f (peer 0 (peer 1 (peer 2 c))))) = ∑ d : Dev nD, f d := by
  have e := ((reached c).map f).sum_eq
  rw [show ∑ d : Dev nD, f d = _ from Fin.sum_univ_def (n := 8) f, ← e]
  simp only [List.map_cons, List.map_nil, List.sum_cons, List.sum_nil, add_zero, add_assoc]

/-- **The total**: on every device the result is the sum of all devices' products. -/
theorem outOf_eq (c : Dev nD) (i : Fin 256) (n : Fin 1024) :
    outOf ctx wo c (ix3 0 i n) = ∑ d : Dev nD, ∑ l : Fin 1024, ctx d (ix2 i l) * wo d (ix2 l n) := by
  simp only [outOf_apply, acc2_apply, acc1_apply, acc0_apply]
  exact exchanges (fun d => ∑ l : Fin 1024, ctx d (ix2 i l) * wo d (ix2 l n)) c

end All

end Cert.KernelIdeal.Reduce

end
-- ==== Proof.RefValue.lean ====
/-
# The reference's result, in pieces

The reference computes attention by plain operations on whole arrays: the block mask, the scores, their softmax weights, the heads'
contexts and the output product. This module names those pieces as functions of the five arguments, and reads each at an index.
-/
module

public import proofs.«01_k».proof.Proof.Gen.ReferenceIdeal.Run
public import proofs.«01_k».proof.Proof.Mask
public import proofs.«01_k».proof.Proof.Softmax
public import Idealize.ShloMosaic.PureOps.Reduce

@[expose] public section

noncomputable section

namespace Cert.ReferenceIdeal.Attn

open Cert.ReferenceIdeal Cert.ReferenceIdeal.Gen
open Idealize.ShloMosaic
open Idealize.ShloMosaic.TcCoe
open Cert.Attention

/-! ## The block mask -/

/-- The number of the block of 64 a query's row falls in, as the program computes it; -/
def qb : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))
/-- and a key's. -/
def kb : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- The divisor three, as a guarded remainder names it. -/
def three : IVec S_ 32 := select (cmpi .eq (id (constantI S_ 32 3#32)) (constantI S_ 32 0#32)) (constantI S_ 32 1#32) (id (constantI S_ 32 3#32))
/-- The sum of the two block numbers, and its remainder by three before its sign is mended. -/
def qk : IVec S256x4096 32 := addi (broadcastInDim S256x4096 ![0, 1] bcast_S256x1_S256x4096_0_1 (broadcastInDim S256x1 ![0] bcast_S256_S256x1_0 qb)) (broadcastInDim S256x4096 ![0, 1] bcast_S1x4096_S256x4096_0_1 (broadcastInDim S1x4096 ![1] bcast_S4096_S1x4096_1 kb))
def rem3 : IVec S256x4096 32 := Host.remsi qk (broadcastInDim S256x4096 ![] bcast_S_S256x4096 three)
/-- The mask: same block, or the first block, or block numbers that add up to a multiple of three. -/
def mask : IVec S256x4096 1 :=
  ori (ori (cmpi .eq (broadcastInDim S256x4096 ![0, 1] bcast_S256x1_S256x4096_0_1 (broadcastInDim S256x1 ![0] bcast_S256_S256x1_0 qb)) (broadcastInDim S256x4096 ![0, 1] bcast_S1x4096_S256x4096_0_1 (broadcastInDim S1x4096 ![1] bcast_S4096_S1x4096_1 kb))) (broadcastInDim S256x4096 ![0, 1] bcast_S1x4096_S256x4096_0_1 (cmpi .eq (broadcastInDim S1x4096 ![1] bcast_S4096_S1x4096_1 kb) (broadcastInDim S1x4096 ![] bcast_S_S1x4096 (constantI S_ 32 0#32))))) (cmpi .eq (select (andi (cmpi .ne (cmpi .slt rem3 (broadcastInDim S256x4096 ![] bcast_S_S256x4096 (constantI S_ 32 0#32))) (broadcastInDim S256x4096 ![] bcast_S_S256x4096 (cmpi .slt three (constantI S_ 32 0#32)))) (cmpi .ne rem3 (broadcastInDim S256x4096 ![] bcast_S_S256x4096 (constantI S_ 32 0#32)))) (addi rem3 (broadcastInDim S256x4096 ![] bcast_S_S256x4096 three)) rem3) (broadcastInDim S256x4096 ![] bcast_S_S256x4096 (constantI S_ 32 0#32)))
/-- Whether a query's row keeps any key. -/
def keep : IVec S256 1 := Host.reduce IntOp.ori mask (constantI S_ 1 0#1) reducesTo_S256x4096_S256_d1 h_S_

/-! ## Scores, weights, contexts -/

section Pieces

variable (x : FVec Ideal S1x256x1024 .f32) (wq : FVec Ideal S1024x8192 .f32) (k v : FVec Ideal S1x4096x64x128 .f32) (wo : FVec Ideal S8192x1024 .f32)

/-- The queries, by head; -/
def queries : FVec Ideal S1x256x64x128 .f32 :=
  shapeCast _ (Host.dotGeneral dot_S1x256x1024_S1024x8192_S1x256x8192_2_0_01_1_n_n none x wq) shapeCasts_S1x256x8192_S1x256x64x128
/-- the scores, those outside the mask at minus infinity; -/
def scores : FVec Ideal S1x64x256x4096 .f32 :=
  select (broadcastInDim S1x64x256x4096 ![0, 1, 2, 3] bcast_S1x1x256x4096_S1x64x256x4096_0_1_2_3 (broadcastInDim S1x1x256x4096 ![2, 3] bcast_S256x4096_S1x1x256x4096_2_3 mask)) (mulf (Host.dotGeneral dot_S1x256x64x128_S1x4096x64x128_S1x64x256x4096_3_3_1_1_02_02 none (queries x wq) k) (broadcastInDim S1x64x256x4096 ![] bcast_S_S1x64x256x4096 (constant S_ .f32 0x3DB504F3#32))) (broadcastInDim S1x64x256x4096 ![] bcast_S_S1x64x256x4096 (id (constant S_ .f32 0xFF800000#32)))
/-- the greatest score of each row; -/
def top : FVec Ideal S1x64x256 .f32 :=
  Host.reduce FloatOps.maximumf (scores x wq k) (constant S_ .f32 0xFF800000#32) reducesTo_S1x64x256x4096_S1x64x256_d3 h_S_
/-- the exponentials of the scores less the greatest; -/
def expo : FVec Ideal S1x64x256x4096 .f32 :=
  Host.exp (subf (scores x wq k) (broadcastInDim S1x64x256x4096 ![0, 1, 2, 3] bcast_S1x64x256x1_S1x64x256x4096_0_1_2_3 (broadcastInDim S1x64x256x1 ![0, 1, 2] bcast_S1x64x256_S1x64x256x1_0_1_2 (top x wq k))))
/-- the weights, a row that keeps no key at zero; -/
def weights : FVec Ideal S1x64x256x4096 .f32 :=
  select (broadcastInDim S1x64x256x4096 ![0, 1, 2, 3] bcast_S1x1x256x1_S1x64x256x4096_0_1_2_3 (broadcastInDim S1x1x256x1 ![2] bcast_S256_S1x1x256x1_2 keep)) (Host.divf (expo x wq k) (broadcastInDim S1x64x256x4096 ![0, 1, 2, 3] bcast_S1x64x256x1_S1x64x256x4096_0_1_2_3 (select (broadcastInDim S1x64x256x1 ![0, 1, 2, 3] bcast_S1x1x256x1_S1x64x256x1_0_1_2_3 (broadcastInDim S1x1x256x1 ![2] bcast_S256_S1x1x256x1_2 keep)) (broadcastInDim S1x64x256x1 ![0, 1, 2] bcast_S1x64x256_S1x64x256x1_0_1_2 (Host.reduceAdd (expo x wq k) (constant S_ .f32 0x00000000#32) reducesTo_S1x64x256x4096_S1x64x256_d3 h_S_)) (broadcastInDim S1x64x256x1 ![] bcast_S_S1x64x256x1 (id (constant S_ .f32 0x3F800000#32)))))) (broadcastInDim S1x64x256x4096 ![] bcast_S_S1x64x256x4096 (id (constant S_ .f32 0x00000000#32)))
/-- the contexts, all heads side by side; -/
def context : FVec Ideal S1x256x8192 .f32 :=
  shapeCast _ (transpose S1x256x64x128 [0, 3, 1, 2] (Host.dotGeneral dot_S1x4096x64x128_S1x64x256x4096_S1x64x128x256_1_3_3_2_02_01 none v (weights x wq k)) transposes_S1x64x128x256_S1x256x64x128_0_3_1_2) shapeCasts_S1x256x64x128_S1x256x8192
/-- and the output. -/
def output : FVec Ideal S1x256x1024 .f32 :=
  Host.dotGeneral dot_S1x256x8192_S8192x1024_S1x256x1024_2_0_01_1_n_n none (context x wq k v) wo

end Pieces

/-- The program's result is the output of its arguments. -/
theorem result_eq (m : (ℓ : Loc nD τ sig) → Buf (Elt Ideal) ℓ) (c : Dev nD) :
    Value.res_main_v44 (F := Ideal) m c = output (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The pieces at an index -/

theorem qb_apply (i : Fin 256) : qb (ix1 i) = BitVec.ofNat 32 (i.val / 64) := by
  pointwise [qb]
  exact blockHost_eq ⟨i.val, by omega⟩
theorem kb_apply (j : Fin 4096) : kb (ix1 j) = BitVec.ofNat 32 (j.val / 64) := by
  pointwise [kb]
  exact blockHost_eq j

/-- The mask at a query and a key is decided by their blocks' numbers. -/
theorem mask_apply (i : Fin 256) (j : Fin 4096) : mask (ix2 i j) = kept (i.val / 64) (j.val / 64) := by
  pointwise [mask, qk, rem3, three]
  rw [qb_apply, kb_apply]
  exact maskHost_eq ⟨i.val / 64, by omega⟩ ⟨j.val / 64, by omega⟩

/-- A fold by `or` that meets a one is one. -/
theorem foldl_ori_one {ι : Type} (f : ι → BitVec 1) (l : List ι) (a : BitVec 1) (h : a = 1#1 ∨ ∃ i ∈ l, f i = 1#1) :
    l.foldl (fun r i => IntOp.ori r (f i)) a = 1#1 := by
  have one : ∀ a b : BitVec 1, a = 1#1 ∨ b = 1#1 → IntOp.ori a b = 1#1 := by decide
  induction l generalizing a with
  | nil => exact h.elim id fun ⟨_, hi, _⟩ => nomatch hi
  | cons b l ih =>
    refine ih _ ?_
    rcases h with h | ⟨i, hi, e⟩
    · exact .inl (one _ _ (.inl h))
    · rcases List.mem_cons.1 hi with rfl | hi
      exacts [.inl (one _ _ (.inr e)), .inr ⟨i, hi, e⟩]

/-- An index belongs to the ones a reduction folds into the index it drops to. -/
theorem mem_folded {s t : Shape} {axes : List (Fin s.rank)} (h : s.ReducesTo axes t) {i : s.Idx} {j : t.Idx} (e : h.drop i = j) :
    i ∈ ((List.finRange s.numel).map s.rowMajor.symm).filter fun i => h.drop i = j := by
  rw [List.mem_filter]
  exact ⟨List.mem_map.2 ⟨s.rowMajor i, List.mem_finRange _, Equiv.symm_apply_apply _ _⟩, by simp [e]⟩

/-- Every query's row keeps a key. -/
theorem keep_apply (i : Fin 256) : keep (ix1 i) = 1#1 := by
  unfold keep
  rw [Host.reduce_eq_foldl]
  refine foldl_ori_one _ _ _ (.inr ⟨ix2 i (0 : Fin 4096), mem_folded _ (funext fun a => ?_), ?_⟩)
  · fin_cases a; rfl
  · rw [mask_apply]; exact kept_zero _

section Read

variable (x : FVec Ideal S1x256x1024 .f32) (wq : FVec Ideal S1024x8192 .f32) (k v : FVec Ideal S1x4096x64x128 .f32) (wo : FVec Ideal S8192x1024 .f32)

theorem queries_apply (i : Fin 256) (h : Fin 64) (d : Fin 128) :
    queries x wq (ix4 0 i h d) = ∑ e : Fin 1024, x (ix3 0 i e) * wq (ix2 e ⟨h.val * 128 + d.val, by omega⟩) := by
  pointwise [queries]

theorem scores_apply (i : Fin 256) (h : Fin 64) (j : Fin 4096) :
    scores x wq k (ix4 0 h i j)
      = score (fun d => queries x wq (ix4 0 i h d)) (fun d => k (ix4 0 j h d)) (kept (i.val / 64) (j.val / 64)) := by
  pointwise [scores]
  rw [mask_apply, ofBits_scale]
  exact congrArg _ ofBits_minus_infinity

theorem expo_apply (i : Fin 256) (h : Fin 64) (j : Fin 4096) :
    expo x wq k (ix4 0 h i j) = Ideal.exp (scores x wq k (ix4 0 h i j) - top x wq k (ix3 0 h i)) := by
  pointwise [expo]

theorem weights_apply (i : Fin 256) (h : Fin 64) (j : Fin 4096) :
    weights x wq k (ix4 0 h i j) = Ideal.div (expo x wq k (ix4 0 h i j)) (∑ l : Fin 4096, expo x wq k (ix4 0 h i l)) := by
  pointwise [weights]
  rw [keep_apply]
  rfl

theorem context_apply (i : Fin 256) (n : Fin 8192) :
    context x wq k v (ix3 0 i n) = ∑ j : Fin 4096, v (ix4 0 j ⟨n.val / 128, by omega⟩ ⟨n.val % 128, by omega⟩)
      * weights x wq k (ix4 0 ⟨n.val / 128, by omega⟩ i j) := by
  pointwise [context]

theorem output_apply (i : Fin 256) (n : Fin 1024) :
    output x wq k v wo (ix3 0 i n) = ∑ l : Fin 8192, context x wq k v (ix3 0 i l) * wo (ix2 l n) := by
  pointwise [output]

variable {x wq k} (hx : Reals x) (hwq : Reals wq) (hk : Reals k)
include hx hwq

/-- Real activations and weights give real queries. -/
theorem queries_real (i : Fin 256) (h : Fin 64) : Reals fun d => queries x wq (ix4 0 i h d) := fun d => by
  show ∃ r : ℝ, queries x wq (ix4 0 i h d) = (r : EReal)
  rw [queries_apply]
  exact sum_mul_real _ (fun e => hx _) fun e => hwq _

include hk

/-- The greatest score of a row is a real number. -/
theorem top_real (i : Fin 256) (h : Fin 64) : ∃ M : ℝ, top x wq k (ix3 0 h i) = (M : EReal) := by
  have real : ∀ y : S1x64x256x4096.Idx, scores x wq k y ≠ ⊤ := fun y => by
    have e : y = ix4 0 (y 1) (y 2) (y 3) := (ValueIdx.eq_ix4 y).trans (congrArg (fun u => ix4 u (y 1) (y 2) (y 3)) (Subsingleton.elim (α := Fin 1) _ _))
    exact fun hy => score_ne_top (queries_real hx hwq (y 2) (y 1)) (fun d => hk _) _
      (((congrArg (scores x wq k) e).trans (scores_apply x wq k (y 2) (y 1) (y 3))).symm.trans hy)
  have hd : reducesTo_S1x64x256x4096_S1x64x256_d3.drop (ix4 0 h i (0 : Fin 4096)) = ix3 0 h i := funext fun a => by fin_cases a <;> rfl
  have hb : scores x wq k (ix4 0 h i (0 : Fin 4096)) ≠ ⊥ := fun e =>
    score_ne_bot (queries_real hx hwq i h) (fun d => hk _) ((congrArg (score _ _) (kept_zero (i.val / 64))).symm.trans ((scores_apply x wq k i h 0).symm.trans e))
  have hi : (constant (F := Ideal) S_ .f32 0xFF800000#32) (Shape.Idx.first h_S_) = ⊥ := ofBits_minus_infinity
  unfold top
  rw [Host.reduce_eq_foldl, hi]
  refine fold_max_real _ (scores x wq k) (fun y _ => real y) _ ?_ hb
  rw [List.mem_filter]
  exact ⟨List.mem_map.2 ⟨S1x64x256x4096.rowMajor _, List.mem_finRange _, Equiv.symm_apply_apply _ _⟩, decide_eq_true hd⟩

/-- **The reference's context** of a query and a head's column is the query's attention. -/
theorem context_eq (i : Fin 256) (n : Fin 8192) :
    context x wq k v (ix3 0 i n)
      = attend (fun d => queries x wq (ix4 0 i ⟨n.val / 128, by omega⟩ d)) (fun j d => k (ix4 0 j ⟨n.val / 128, by omega⟩ d))
          (fun j => v (ix4 0 j ⟨n.val / 128, by omega⟩ ⟨n.val % 128, by omega⟩)) fun j => kept (i.val / 64) (j.val / 64) := by
  rw [context_apply]
  obtain ⟨M, hM⟩ := top_real hx hwq hk i ⟨n.val / 128, by omega⟩
  simp only [weights_apply, expo_apply, hM, scores_apply]
  exact softmax_eq _ _ M (fun j => score_ne_top (queries_real hx hwq _ _) (fun d => hk _) _) 0
    ((kept_zero _).symm ▸ score_ne_bot (queries_real hx hwq _ _) fun d => hk _)

end Read

end Cert.ReferenceIdeal.Attn

end
-- ==== Proof.Equal.lean ====
/-
# The kernel's result is the reference's

The kernel's devices hold blocks of the reference's arrays. From the precondition the activations, the query weights and the keys are
real numbers; then every device's result is the reference's.
-/
module

public import proofs.«01_k».proof.Defs
public import proofs.«01_k».proof.Proof.Gen.Pre_scores_finite_KernelIdeal
public import proofs.«01_k».proof.Proof.Run
public import proofs.«01_k».proof.Proof.KernelValue
public import proofs.«01_k».proof.Proof.RefValue
public import Idealize.ShloMosaic.Lib.ReduceAll
public import Idealize.ShloMosaic.Lib.Layout
public import Idealize.ShloMosaic.Lib.StableHlo.RunHlo

@[expose] public section

noncomputable section

namespace Cert.Equal

open Idealize.ShloMosaic Idealize.SL.Sem
open Idealize.ShloMosaic.TcCoe
open Cert.Attention
open Cert.KernelIdeal Cert.KernelIdeal.Gen Cert.KernelIdeal.Reduce

/-! ## The precondition -/

/-- A number whose absolute value compares less than infinity is real. -/
theorem real_of_lt {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : ∃ r : ℝ, x i = (r : EReal) := by
  have e' : Ideal.cmp .olt (max (x i) (-x i)) (Ideal.ofBits .f32 0x7F800000#32) = 1#1 := e
  rw [ofBits_infinity] at e'
  have lt : max (x i) (-x i) < ⊤ := by
    by_contra hn
    simp [Ideal.cmp, hn] at e'
  have h1 : x i < ⊤ := (le_max_left _ _).trans_lt lt
  have h2 : -x i < ⊤ := (le_max_right _ _).trans_lt lt
  refine ⟨_, (EReal.coe_toReal h1.ne fun hb => ?_).symm⟩
  rw [hb] at h2
  exact absurd h2 (by simp)

variable (m : (ℓ : Loc nD τ sig) → Buf (Elt Ideal) ℓ)

/-- Where the precondition holds, every device's activations, query weights and keys are real numbers. -/
theorem reals_of_pre (h : Pre_KernelIdeal_scores_finite_KernelIdeal m) (c : Dev nD) :
    Reals (ι := S1x256x1024.Idx) (m ((c.tc : Thread nD τ).loc main_arg0)) ∧ Reals (ι := S1024x8192.Idx) (m ((c.tc : Thread nD τ).loc main_arg1))
      ∧ Reals (ι := S1x4096x8x128.Idx) (m ((c.tc : Thread nD τ).loc main_arg2)) := by
  have e := congrFun (h c) ValueIdx.ix0
  obtain ⟨e12, e3⟩ := IntOp.andi_eq_one.1 e
  obtain ⟨e1, e2⟩ := IntOp.andi_eq_one.1 e12
  have : Subsingleton Cert.Pre_scores_finite_KernelIdeal.S_.Idx := ⟨fun a b => funext fun i => i.elim0⟩
  exact ⟨fun i => real_of_lt _ _ i (Host.reduce_andi_all _ _ _ _ _ e1 i), fun i => real_of_lt _ _ i (Host.reduce_andi_all _ _ _ _ _ e2 i),
    fun i => real_of_lt _ _ i (Host.reduce_andi_all _ _ _ _ _ e3 i)⟩

/-! ## The blocks -/

/-- The window of the activations covers its array. -/
theorem xB_eq (c : Dev nD) : xB m c = m ((c.tc : Thread nD τ).loc main_arg0) := by
  funext y
  show m ((c.tc : Thread nD τ).loc main_arg0) (((cfg0.win 0).rect t0_0).emb y) = _
  exact congrArg _ (funext fun a => Fin.ext (Pipeline.Window.rect_emb_val_of_index_zero (cfg0.win 0) t0_0 a (by fin_cases a <;> rfl) y))
/-- The window of the keys covers its array. -/
theorem kB_eq (c : Dev nD) : kB m c = m ((c.tc : Thread nD τ).loc main_arg2) := by
  funext y
  show m ((c.tc : Thread nD τ).loc main_arg2) (((cfg0.win 1).rect t0_0).emb y) = _
  exact congrArg _ (funext fun a => Fin.ext (Pipeline.Window.rect_emb_val_of_index_zero (cfg0.win 1) t0_0 a (by fin_cases a <;> rfl) y))
/-- The window of the values covers its array. -/
theorem vB_eq (c : Dev nD) : vB m c = m ((c.tc : Thread nD τ).loc main_arg3) := by
  funext y
  show m ((c.tc : Thread nD τ).loc main_arg3) (((cfg0.win 2).rect t0_0).emb y) = _
  exact congrArg _ (funext fun a => Fin.ext (Pipeline.Window.rect_emb_val_of_index_zero (cfg0.win 2) t0_0 a (by fin_cases a <;> rfl) y))

/-- A device's columns of the query weights begin at `1024` times its number, -/
theorem off1_eq (c : Dev nD) : k0_off1 c = ![0, 1024 * c.val] := by revert c; decide
/-- and its rows of the output weights too. -/
theorem off2_eq (c : Dev nD) : k0_off2 c = ![1024 * c.val, 0] := by revert c; decide

/-- A device's slice of the query weights is its columns, -/
theorem wqB_apply (c : Dev nD) (e n : Fin 1024) :
    wqB m c (ix2 e n) = m ((c.tc : Thread nD τ).loc main_arg1) (ix2 e (⟨1024 * c.val + n.val, by have : c.val < 8 := c.isLt; omega⟩ : Fin 8192)) := by
  show m ((c.tc : Thread nD τ).loc main_arg1) ((Rect.unit (s := S1024x8192) (k0_off1 c) S1024x1024.size (k0_off1_inb c)).emb (ix2 e n)) = _
  refine congrArg _ (funext fun a => Fin.ext ?_)
  have e1 := congrFun (off1_eq c) a
  show k0_off1 c a + 1 * (ix2 e n a).val = _
  rw [e1]
  fin_cases a
  · show 0 + 1 * e.val = e.val; omega
  · show 1024 * c.val + 1 * n.val = 1024 * c.val + n.val; omega
/-- and of the output weights its rows. -/
theorem woB_apply (c : Dev nD) (l n : Fin 1024) :
    woB m c (ix2 l n) = m ((c.tc : Thread nD τ).loc main_arg4) (ix2 (⟨1024 * c.val + l.val, by have : c.val < 8 := c.isLt; omega⟩ : Fin 8192) n) := by
  show m ((c.tc : Thread nD τ).loc main_arg4) ((Rect.unit (s := S8192x1024) (k0_off2 c) S1024x1024.size (k0_off2_inb c)).emb (ix2 l n)) = _
  refine congrArg _ (funext fun a => Fin.ext ?_)
  have e1 := congrFun (off2_eq c) a
  show k0_off2 c a + 1 * (ix2 l n a).val = _
  rw [e1]
  fin_cases a
  · show 1024 * c.val + 1 * l.val = 1024 * c.val + l.val; omega
  · show 0 + 1 * n.val = n.val; omega

/-- Entry `h` of a device's block of the keys or values is the array's head `8 c + h`. -/
theorem block_apply (c : Fin 8) (f : (⟨4, ![1, 4096, 64, 128]⟩ : Shape).Idx → EReal) (j : Fin 4096) (h : Fin 8) (d : Fin 128) :
    Layout.block ⟨4, ![1, 4096, 8, 128]⟩ ⟨4, ![1, 4096, 64, 128]⟩ 2 8 c f (by decide) (ix4 0 j h d)
      = f (ix4 0 j (⟨c.val * 8 + h.val, by omega⟩ : Fin 64) d) :=
  congrArg f (funext fun a => by fin_cases a <;> rfl)

/-! ## The result -/

/-- A sum over the 8192 columns is the sum over the devices of their 1024 columns' sums. -/
theorem sum_columns (f : Fin 8192 → EReal) :
    ∑ l : Fin 8192, f l = ∑ d : Dev nD, ∑ l : Fin 1024, f ⟨1024 * d.val + l.val, by have : d.val < 8 := d.isLt; omega⟩ := by
  rw [← Equiv.sum_comp (finProdFinEquiv (m := 8) (n := 1024)) f, Fintype.sum_prod_type]
  exact Finset.sum_congr rfl fun d _ => Finset.sum_congr rfl fun l _ => congrArg f (Fin.ext (Nat.add_comm _ _))

section Agree

variable {m} (X : FVec Ideal S1x256x1024 .f32) (WQ : FVec Ideal S1024x8192 .f32)
  (K V : FVec Ideal Cert.ReferenceIdeal.S1x4096x64x128 .f32) (WO : FVec Ideal S8192x1024 .f32)
  (hx : ∀ c : Dev nD, m ((c.tc : Thread nD τ).loc main_arg0) = X) (hwq : ∀ c : Dev nD, m ((c.tc : Thread nD τ).loc main_arg1) = WQ)
  (hk : ∀ c : Dev nD, m ((c.tc : Thread nD τ).loc main_arg2) = Layout.block ⟨4, ![1, 4096, 8, 128]⟩ ⟨4, ![1, 4096, 64, 128]⟩ 2 8 c K)
  (hv : ∀ c : Dev nD, m ((c.tc : Thread nD τ).loc main_arg3) = Layout.block ⟨4, ![1, 4096, 8, 128]⟩ ⟨4, ![1, 4096, 64, 128]⟩ 2 8 c V)
  (hwo : ∀ c : Dev nD, m ((c.tc : Thread nD τ).loc main_arg4) = WO)
  (h : Pre_KernelIdeal_scores_finite_KernelIdeal m)

include hk h in
/-- All the keys are real numbers, when every device's are. -/
theorem keys_real : Reals K := fun y => by
  have h2 : (y 2).val < 64 := (y 2).isLt
  obtain ⟨r, hr⟩ := (reals_of_pre m h ⟨(y 2).val / 8, by show _ < 8; omega⟩).2.2 (ix4 0 (y 1) (⟨(y 2).val % 8, by omega⟩ : Fin 8) (y 3))
  refine ⟨r, Eq.trans ?_ hr⟩
  rw [hk]
  refine Eq.trans (congrArg K ?_) (block_apply _ K (y 1) _ (y 3)).symm
  funext a
  fin_cases a
  · exact Subsingleton.elim (α := Fin 1) _ _
  · rfl
  · exact Fin.ext (by show (y 2).val = (y 2).val / 8 * 8 + (y 2).val % 8; omega)
  · rfl

include hx hwq hk hv h in
/-- A device's context is the reference's at the device's columns. -/
theorem ctxAt_eq (c : Dev nD) (i : Fin 256) (n : Fin 1024) :
    ctxAt m c (ix2 i n)
      = Cert.ReferenceIdeal.Attn.context X WQ K V (ix3 0 i (⟨1024 * c.val + n.val, by have : c.val < 8 := c.isLt; omega⟩ : Fin 8192)) := by
  have hc : c.val < 8 := c.isLt
  have rX : Reals X := hx c ▸ (reals_of_pre m h c).1
  have rW : Reals WQ := hwq c ▸ (reals_of_pre m h c).2.1
  have rx : Reals (ι := S1x256x1024.Idx) (xB m c) := by rw [xB_eq, hx]; exact rX
  have rw' : Reals (ι := S1024x1024.Idx) (wqB m c) := fun y => by
    obtain ⟨r, hr⟩ := rW (ix2 (y 0 : Fin 1024) (⟨1024 * c.val + (y 1).val, by have : (y 1).val < 1024 := (y 1).isLt; omega⟩ : Fin 8192))
    exact ⟨r, (congrArg (wqB m c) (eq_ix2 (n0 := 1024) (n1 := 1024) y)).trans ((wqB_apply m c (y 0) (y 1)).trans ((congrFun (hwq c) _).trans hr))⟩
  have rk : Reals (ι := S1x4096x8x128.Idx) (kB m c) := by rw [kB_eq]; exact (reals_of_pre m h c).2.2
  have head : (⟨(1024 * c.val + n.val) / 128, by omega⟩ : Fin 64) = ⟨c.val * 8 + n.val / 128, by omega⟩ := Fin.ext (by show (1024 * c.val + n.val) / 128 = c.val * 8 + n.val / 128; omega)
  have col : (⟨(1024 * c.val + n.val) % 128, by omega⟩ : Fin 128) = ⟨n.val % 128, by omega⟩ := Fin.ext (by show (1024 * c.val + n.val) % 128 = n.val % 128; omega)
  rw [Cert.ReferenceIdeal.Attn.context_eq V rX rW (keys_real K hk h)]
  unfold ctxAt
  rw [ctxBuf_eq _ rx rw' rk, head, col]
  have eq : (fun d : Fin 128 => query (xB m c) (wqB m c) i ⟨128 * (n.val / 128) + d.val, by omega⟩)
      = fun d => Cert.ReferenceIdeal.Attn.queries X WQ (ix4 0 i ⟨c.val * 8 + n.val / 128, by omega⟩ d) := funext fun d => by
    rw [Cert.ReferenceIdeal.Attn.queries_apply]
    refine Finset.sum_congr rfl fun e _ => ?_
    rw [wqB_apply, xB_eq, hx, hwq]
    exact congrArg (fun u => X (ix3 0 i e) * WQ (ix2 e u)) (Fin.ext (by show 1024 * c.val + (128 * (n.val / 128) + d.val) = (c.val * 8 + n.val / 128) * 128 + d.val; omega))
  have ek : (fun (j : Fin 4096) (d : Fin 128) => kB m c (ix4 0 j ⟨n.val / 128, by omega⟩ d))
      = fun j d => K (ix4 0 j ⟨c.val * 8 + n.val / 128, by omega⟩ d) := funext fun j => funext fun d => by
    rw [kB_eq, hk]; exact block_apply c K j _ d
  have ev : (fun j : Fin 4096 => vB m c (ix4 0 j ⟨n.val / 128, by omega⟩ ⟨n.val % 128, by omega⟩))
      = fun j => V (ix4 0 j ⟨c.val * 8 + n.val / 128, by omega⟩ ⟨n.val % 128, by omega⟩) := funext fun j => by
    rw [vB_eq, hv]; exact block_apply c V j _ _
  rw [eq, ek, ev]

include hx hwq hk hv hwo h in
/-- **Every device's result is the reference's.** -/
theorem outAt_eq (c : Dev nD) : outAt m c = Cert.ReferenceIdeal.Attn.output X WQ K V WO := by
  funext y
  have e : y = ix3 0 (y 1) (y 2) :=
    (eq_ix3 y).trans (congrArg (fun u => ix3 u (y 1) (y 2)) (Subsingleton.elim (α := Fin 1) _ _))
  have key : ∀ (i : Fin 256) (n : Fin 1024), outAt m c (ix3 0 i n) = Cert.ReferenceIdeal.Attn.output X WQ K V WO (ix3 0 i n) := fun i n => by
    unfold outAt
    rw [outOf_eq, Cert.ReferenceIdeal.Attn.output_apply, sum_columns]
    refine Finset.sum_congr rfl fun d _ => Finset.sum_congr rfl fun l _ => ?_
    rw [ctxAt_eq X WQ K V hx hwq hk hv h, woB_apply, hwo]
  exact (congrArg (outAt m c) e).trans ((key (y 1) (y 2)).trans (congrArg (Cert.ReferenceIdeal.Attn.output X WQ K V WO) e).symm)

end Agree

/-- **The kernel computes the reference**: where the precondition holds, every device ends with the reference's result. -/
theorem algebraic : Cert.algebraic_KernelIdeal_ReferenceIdeal_pre_scores_finite_KernelIdeal := fun m g m' g' h agree =>
  ⟨Cert.ReferenceIdeal.Value.res_main_v44 (F := Ideal) m' 0,
    θ_run_mono (run_value m g) fun r hr c =>
      ⟨(hr c).1.trans ((outAt_eq _ _ _ _ _ (fun c => (agree c).1) (fun c => (agree c).2.1) (fun c => (agree c).2.2.1)
        (fun c => (agree c).2.2.2.1) (fun c => (agree c).2.2.2.2) h c).trans (Cert.ReferenceIdeal.Attn.result_eq m' 0).symm), (hr c).2⟩,
    θ_run_mono (Cert.ReferenceIdeal.Value.run (F := Ideal) m' g') fun r hr => hr 0⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_scores_finite_KernelIdeal
public import proofs.«01_k».proof.Proof.Gen.Pre_scores_finite_ReferenceIdeal
public import proofs.«01_k».proof.Proof.Run
public import proofs.«01_k».proof.Proof.BitsRun
public import proofs.«01_k».proof.Proof.Equal
public import Idealize.ShloMosaic.Adequacy
public import Idealize.ShloMosaic.Init

@[expose] public section

noncomputable section

namespace Cert.Proof

open Idealize.ShloMosaic Idealize.SL.Sem

/-- The kernel runs to the end without fault, leaves its arguments as they were and every semaphore at zero; -/
theorem frame_kernel : Cert.quiescent_Kernel := fun m g _ => Cert.Kernel.Reduce.run_kept m g
/-- and so does the idealized kernel, -/
theorem frame_ideal : Cert.quiescent_KernelIdeal := fun m g _ => Cert.KernelIdeal.Reduce.run_kept m g
/-- and the reference, which has no semaphore. -/
theorem frame_reference : Cert.quiescent_ReferenceIdeal := fun m g _ =>
  θ_run_mono (Cert.ReferenceIdeal.Value.run (F := Ideal) m g) fun r h =>
    ⟨fun c => (h c).2, sem_eq_zero_of_no_sems (by decide) r.2⟩

/-- The idealized kernel is the kernel over the extended reals, with the mask's constant read as minus infinity. -/
theorem preserves : Cert.preserves_Kernel_KernelIdeal :=
  IdealRules.named_const.statement Cert.KernelIdeal.κ "mask" .f32 0xCE6E6B28#32 ⊥ rfl

/-- Everything claimed; the frames under the precondition are the ones above, which need none. -/
theorem claim : Cert.Claim := ⟨Cert.Kernel.Gen.facts, Cert.KernelIdeal.Gen.facts, Cert.ReferenceIdeal.Gen.facts,
  Cert.Pre_scores_finite_KernelIdeal.Gen.facts, Cert.Pre_scores_finite_ReferenceIdeal.Gen.facts,
  frame_kernel, frame_ideal, fun m g _ => Cert.KernelIdeal.Reduce.run_kept m g, frame_reference, fun m g _ => frame_reference m g trivial,
  preserves, Cert.Equal.algebraic⟩

end Cert.Proof

end
